-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x256 : Shape := ⟨2, ![512, 256]⟩
abbrev S256 : Shape := ⟨1, ![256]⟩
abbrev S512x1 : Shape := ⟨2, ![512, 1]⟩
abbrev S1 : Shape := ⟨1, ![1]⟩
abbrev S256x128 : Shape := ⟨2, ![256, 128]⟩
abbrev S128 : Shape := ⟨1, ![128]⟩
abbrev S65536x128 : Shape := ⟨2, ![65536, 128]⟩
abbrev S384x1 : Shape := ⟨2, ![384, 1]⟩
abbrev S1x256 : Shape := ⟨2, ![1, 256]⟩
abbrev S1x1 : Shape := ⟨2, ![1, 1]⟩
abbrev S1x128 : Shape := ⟨2, ![1, 128]⟩
abbrev S1024x1 : Shape := ⟨2, ![1024, 1]⟩
abbrev S1x65536 : Shape := ⟨2, ![1, 65536]⟩
abbrev S4096x128 : Shape := ⟨2, ![4096, 128]⟩
abbrev S1024x256 : Shape := ⟨2, ![1024, 256]⟩
abbrev S1024x128 : Shape := ⟨2, ![1024, 128]⟩
abbrev S1024 : Shape := ⟨1, ![1024]⟩
abbrev S1x512 : Shape := ⟨2, ![1, 512]⟩
abbrev S4096 : Shape := ⟨1, ![4096]⟩
abbrev S4096x1 : Shape := ⟨2, ![4096, 1]⟩
abbrev S1024x4096 : Shape := ⟨2, ![1024, 4096]⟩
abbrev S1x4096 : Shape := ⟨2, ![1, 4096]⟩
abbrev S256x1 : Shape := ⟨2, ![256, 1]⟩
abbrev S128x1 : Shape := ⟨2, ![128, 1]⟩

abbrev nBuf : Space → Nat
  | .hbm => 18
  | .vmem => 20
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S256, .f32⟩
  | .hbm, ⟨3, _⟩ => ⟨S512x1, .f32⟩
  | .hbm, ⟨4, _⟩ => ⟨S1, .f32⟩
  | .hbm, ⟨5, _⟩ => ⟨S256x128, .f32⟩
  | .hbm, ⟨6, _⟩ => ⟨S128, .f32⟩
  | .hbm, ⟨7, _⟩ => ⟨S65536x128, .f32⟩
  | .hbm, ⟨8, _⟩ => ⟨S384x1, .f32⟩
  | .hbm, ⟨9, _⟩ => ⟨S1, .f32⟩
  | .hbm, ⟨10, _⟩ => ⟨S1x256, .f32⟩
  | .hbm, ⟨11, _⟩ => ⟨S1x1, .f32⟩
  | .hbm, ⟨12, _⟩ => ⟨S1x128, .f32⟩
  | .hbm, ⟨13, _⟩ => ⟨S1x1, .f32⟩
  | .hbm, ⟨14, _⟩ => ⟨S1024x1, .f32⟩
  | .hbm, ⟨15, _⟩ => ⟨S1x256, .f32⟩
  | .hbm, ⟨16, _⟩ => ⟨S1x1, .f32⟩
  | .hbm, ⟨17, _⟩ => ⟨S1x65536, .f32⟩
  | .local _ .vmem, ⟨0, _⟩ => ⟨S1024x512, .f32⟩
  | .local _ .vmem, ⟨1, _⟩ => ⟨S512x256, .f32⟩
  | .local _ .vmem, ⟨2, _⟩ => ⟨S1x256, .f32⟩
  | .local _ .vmem, ⟨3, _⟩ => ⟨S512x1, .f32⟩
  | .local _ .vmem, ⟨4, _⟩ => ⟨S1x1, .f32⟩
  | .local _ .vmem, ⟨5, _⟩ => ⟨S256x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S384x1, .f32⟩
  | .local _ .vmem, ⟨10, _⟩ => ⟨S1x1, .f32⟩
  | .local _ .vmem, ⟨11, _⟩ => ⟨S1024x1, .f32⟩
  | .local _ .vmem, ⟨12, _⟩ => ⟨S1x256, .f32⟩
  | .local _ .vmem, ⟨13, _⟩ => ⟨S1x1, .f32⟩
  | .local _ .vmem, ⟨14, _⟩ => ⟨S1x65536, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x1, .f32⟩
  | .local _ .vmem, ⟨19, _⟩ => ⟨S1x65536, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_16 : Index := 0#32
  let arg0 : BitVec 32 := BitVec.ofNat 32 (i 0).val
  let c4096_i32 : BitVec 32 := 4096#32
  let v31 : BitVec 32 := Scalar.muli arg0 c4096_i32
  let v32 : Index := Scalar.indexCast v31
  ![0, v32.toNat]
def k0_cond2 (i : grid0.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_17 : BitVec 32 := 0#32
  let v38 : BitVec 1 := Scalar.cmpi .ne v37 c0_i32_17
  v38

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x65536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1024x512 : Shape := ⟨2, ![1024, 512]⟩
abbrev S512x256 : Shape := ⟨2, ![512, 256]⟩
abbrev S256 : Shape := ⟨1, ![256]⟩
abbrev S512x1 : Shape := ⟨2, ![512, 1]⟩
abbrev S1 : Shape := ⟨1, ![1]⟩
abbrev S256x128 : Shape := ⟨2, ![256, 128]⟩
abbrev S128 : Shape := ⟨1, ![128]⟩
abbrev S65536x128 : Shape := ⟨2, ![65536, 128]⟩
abbrev S384x1 : Shape := ⟨2, ![384, 1]⟩
abbrev S1024x256 : Shape := ⟨2, ![1024, 256]⟩
abbrev S1x256 : Shape := ⟨2, ![1, 256]⟩
abbrev S1024x1 : Shape := ⟨2, ![1024, 1]⟩
abbrev S1x1 : Shape := ⟨2, ![1, 1]⟩
abbrev S1024x128 : Shape := ⟨2, ![1024, 128]⟩
abbrev S1x128 : Shape := ⟨2, ![1, 128]⟩
abbrev S_ : Shape := ⟨0, ![]⟩
abbrev S1024 : Shape := ⟨1, ![1024]⟩
abbrev S65536 : Shape := ⟨1, ![65536]⟩
abbrev S128x65536 : Shape := ⟨2, ![128, 65536]⟩
abbrev S1024x65536 : Shape := ⟨2, ![1024, 65536]⟩
abbrev S1x65536 : Shape := ⟨2, ![1, 65536]⟩
abbrev S1024x384 : Shape := ⟨2, ![1024, 384]⟩

abbrev nBuf : Space → Nat
  | .hbm => 68
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x256, .f32⟩
  | .hbm, ⟨2, _⟩ => ⟨S256, .f32⟩
  | .hbm, ⟨3, _⟩ => ⟨S512x1, .f32⟩
  | .hbm, ⟨4, _⟩ => ⟨S1, .f32⟩
  | .hbm, ⟨5, _⟩ => ⟨S256x128, .f32⟩
  | .hbm, ⟨6, _⟩ => ⟨S128, .f32⟩
  | .hbm, ⟨7, _⟩ => ⟨S65536x128, .f32⟩
  | .hbm, ⟨8, _⟩ => ⟨S384x1, .f32⟩
  | .hbm, ⟨9, _⟩ => ⟨S1, .f32⟩
  | .hbm, ⟨10, _⟩ => ⟨S1024x256, .f32⟩
  | .hbm, ⟨11, _⟩ => ⟨S1x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x1, .f32⟩
  | .hbm, ⟨16, _⟩ => ⟨S1x1, .f32⟩
  | .hbm, ⟨17, _⟩ => ⟨S1024x1, .f32⟩
  | .hbm, ⟨18, _⟩ => ⟨S1024x1, .f32⟩
  | .hbm, ⟨19, _⟩ => ⟨S1024x128, .f32⟩
  | .hbm, ⟨20, _⟩ => ⟨S1x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S65536x128, .f32⟩
  | .hbm, ⟨32, _⟩ => ⟨S_, .f32⟩
  | .hbm, ⟨33, _⟩ => ⟨S65536, .f32⟩
  | .hbm, ⟨34, _⟩ => ⟨S_, .f32⟩
  | .hbm, ⟨35, _⟩ => ⟨S65536, .f32⟩
  | .hbm, ⟨36, _⟩ => ⟨S65536, .f32⟩
  | .hbm, ⟨37, _⟩ => ⟨S65536, .f32⟩
  | .hbm, ⟨38, _⟩ => ⟨S128x65536, .f32⟩
  | .hbm, ⟨39, _⟩ => ⟨S1024x65536, .f32⟩
  | .hbm, ⟨40, _⟩ => ⟨S1x65536, .f32⟩
  | .hbm, ⟨41, _⟩ => ⟨S1024x65536, .f32⟩
  | .hbm, ⟨42, _⟩ => ⟨S1024x65536, .f32⟩
  | .hbm, ⟨43, _⟩ => ⟨S1024x65536, .f32⟩
  | .hbm, ⟨44, _⟩ => ⟨S1024x65536, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024x1, .f32⟩
  | .hbm, ⟨51, _⟩ => ⟨S1024x65536, .f32⟩
  | .hbm, ⟨52, _⟩ => ⟨S1024x65536, .f32⟩
  | .hbm, ⟨53, _⟩ => ⟨S1024x65536, .f32⟩
  | .hbm, ⟨54, _⟩ => ⟨S_, .f32⟩
  | .hbm, ⟨55, _⟩ => ⟨S1024, .f32⟩
  | .hbm, ⟨56, _⟩ => ⟨S1024x1, .f32⟩
  | .hbm, ⟨57, _⟩ => ⟨S1024x65536, .f32⟩
  | .hbm, ⟨58, _⟩ => ⟨S1024x65536, .f32⟩
  | .hbm, ⟨59, _⟩ => ⟨S1024x128, .f32⟩
  | .hbm, ⟨60, _⟩ => ⟨S1024x384, .f32⟩
  | .hbm, ⟨61, _⟩ => ⟨S1024x1, .f32⟩
  | .hbm, ⟨62, _⟩ => ⟨S1x1, .f32⟩
  | .hbm, ⟨63, _⟩ => ⟨S1024x1, .f32⟩
  | .hbm, ⟨64, _⟩ => ⟨S1024x1, .f32⟩
  | .hbm, ⟨65, _⟩ => ⟨S1x256, .f32⟩
  | .hbm, ⟨66, _⟩ => ⟨S1x1, .f32⟩
  | .hbm, ⟨67, _⟩ => ⟨S1x65536, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Steps.lean ====
/- The triples of the kernel body, one for each of the three kinds of grid point (first, middle, last):
   the body run on whole memrefs whose contents are given, stated with the contents it leaves. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A store of the whole of a buffer of two axes, its sizes written out, reads back as what was stored. -/
theorem read_store {sp : Space} {n k : ℕ} (v : View sig .tc sp ⟨2, ![n, k]⟩ .f32) (f : v.ty.Contents (Elt F))
    (inb : ∀ a, (![0, 0] : Fin 2 → ℕ) a + (![n, k] : Fin 2 → ℕ) a ≤ (![n, k] : Fin 2 → ℕ) a)
    (w : Vec F ⟨2, ![n, k]⟩ .f32) (L : List (View.Piece (Elt F) ⟨2, ![n, k]⟩ .f32)) :
    v.read (Elt F) (v.writes (Elt F) f (⟨Rect.unit (s := ⟨2, ![n, k]⟩) ![0, 0] ![n, k] inb, w⟩ :: L)) = w :=
  View.read_writes_full v f inb w L

/-- A load of the whole of such a buffer reads what the buffer holds. -/
theorem read_load {sp : Space} {n k : ℕ} (v : View sig .tc sp ⟨2, ![n, k]⟩ .f32) (f : v.ty.Contents (Elt F))
    (inb : ∀ a, (![0, 0] : Fin 2 → ℕ) a + (![n, k] : Fin 2 → ℕ) a ≤ (![n, k] : Fin 2 → ℕ) a) :
    v.readAt (Elt F) (Rect.unit (s := ⟨2, ![n, k]⟩) ![0, 0] ![n, k] inb).toLoadRect f = v.read (Elt F) f :=
  View.readAt_full v f inb

/-- The same load taken after a store of the whole gives what was stored. -/
theorem read_cov {sp : Space} {n k : ℕ} (v : View sig .tc sp ⟨2, ![n, k]⟩ .f32)
    (inb inb' : ∀ a, (![0, 0] : Fin 2 → ℕ) a + (![n, k] : Fin 2 → ℕ) a ≤ (![n, k] : Fin 2 → ℕ) a)
    (w : Vec F ⟨2, ![n, k]⟩ .f32) (L : List (View.Piece (Elt F) ⟨2, ![n, k]⟩ .f32)) :
    v.readCov (⟨Rect.unit (s := ⟨2, ![n, k]⟩) ![0, 0] ![n, k] inb, w⟩ :: L)
      (Rect.unit (s := ⟨2, ![n, k]⟩) ![0, 0] ![n, k] inb').toLoadRect = w :=
  View.readCov_full v inb' inb w L

/-- A store of a part of a buffer reads back as the buffer's value with that part put into it. -/
theorem read_put {sp : Space} {sh : Shape} (v : View sig .tc sp sh .f32) (f : v.ty.Contents (Elt F)) {off size : Fin sh.rank → ℕ}
    (inb : ∀ a, off a + size a ≤ sh.size a) (w : (Rect.unit off size inb).shape.Idx → Elt F .f32) {d : Vec F sh .f32}
    (hd : v.read (Elt F) f = d) : v.read (Elt F) (v.writes (Elt F) f [⟨Rect.unit off size inb, w⟩]) = VecWindow.put d off size w := by
  subst hd; exact View.read_writes_cons_put v f inb w [] rfl

set_option maxHeartbeats 1000000 in
/-- The first point: the hidden states, the scaled read key and the gate are computed and stored, the running sums are
    cleared and take the first block, whose sims of the last row are stored. -/
theorem body_first (c : Dev nD) (i : grid0.Coords)
    (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x1 .f32) (harg4 : arg4.IsWhole)
    (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S4096x128 .f32) (harg8 : arg8.IsWhole)
    (arg9 : Memref sig .tc .vmem S384x1 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1x256 .f32) (harg12 : arg12.IsWhole)
    (arg13 : Memref sig .tc .vmem S1x1 .f32) (harg13 : arg13.IsWhole) (arg14 : Memref sig .tc .vmem S1x65536 .f32) (harg14 : arg14.IsWhole) (arg15 : Memref sig .tc .vmem S1024x256 .f32) (harg15 : arg15.IsWhole) (arg16 : Memref sig .tc .vmem S1024x128 .f32) (harg16 : arg16.IsWhole)
    (arg17 : Memref sig .tc .vmem S1024x128 .f32) (harg17 : arg17.IsWhole) (arg18 : Memref sig .tc .vmem S1024x1 .f32) (harg18 : arg18.IsWhole) (arg19 : Memref sig .tc .vmem S1x65536 .f32) (harg19 : arg19.IsWhole)
    (h1 : k0_cond1 i = 1#1) (h2 : ¬ k0_cond2 i = 1#1)
    (x0 : Vec F S1024x512 .f32) (x1 : Vec F S512x256 .f32) (x2 : Vec F S1x256 .f32) (x3 : Vec F S512x1 .f32) (x4 : Vec F S1x1 .f32) (x5 : Vec F S256x128 .f32) (x6 : Vec F S1x128 .f32)
    (x7 : Vec F S4096x128 .f32) (d12 : Vec F S1x1 .f32) (d15 : Vec F S1024x256 .f32) (d16 d17 : Vec F S1024x128 .f32) (d18 : Vec F S1024x1 .f32) (s : Vec F S1x65536 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg13 fullShare d12 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg13 fullShare (k0_pay9 (k0_pay8 x0 x3) x4) ∗ owns (c : Thread nD τ) arg15 fullShare (k0_pay6 x0 x1 x2) ∗ owns (c : Thread nD τ) arg16 fullShare (k0_pay7 x0 x1 x2 x5 x6) ∗ owns (c : Thread nD τ) arg17 fullShare (k0_pay15 x7 (k0_pay7 x0 x1 x2 x5 x6) k0_pay10) ∗ owns (c : Thread nD τ) arg18 fullShare (k0_pay14 x7 (k0_pay7 x0 x1 x2 x5 x6) k0_pay11) ∗ owns (c : Thread nD τ) arg19 fullShare (VecWindow.put s (k0_off1 i) S1x4096.size (k0_pay1 (k0_pay16 x7 (k0_pay7 x0 x1 x2 x5 x6))))) -∗ K ⟨⟩))
      ⊢ wp frame (wpE (defs₀ (F := F)) Variants.none c none) Set.univ
          (cc0__mann_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mann_kernel_eq_skeleton]; unfold cc0__mann_kernel_skel
  simp only [k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg15.eq_unread hf15; obtain rfl := harg16.eq_unread hf16; obtain rfl := harg17.eq_unread hf17; obtain rfl := harg18.eq_unread hf18; obtain rfl := harg19.eq_unread hf19
  sl_exec (disch := first | sl_exact h1 | sl_exact h2)
  sl_step
  iapply Hk
  isplitl [H1]
  · iexists _; isplitr; swap
    · iexact H1
    ipureintro; exact harg1.read_unread _
  isplitl [H2]
  · iexists _; isplitr; swap
    · iexact H2
    ipureintro; exact harg2.read_unread _
  isplitl [H3]
  · iexists _; isplitr; swap
    · iexact H3
    ipureintro; exact harg3.read_unread _
  isplitl [H4]
  · iexists _; isplitr; swap
    · iexact H4
    ipureintro; exact harg4.read_unread _
  isplitl [H5]
  · iexists _; isplitr; swap
    · iexact H5
    ipureintro; exact harg5.read_unread _
  isplitl [H6]
  · iexists _; isplitr; swap
    · iexact H6
    ipureintro; exact harg6.read_unread _
  isplitl [H7]
  · iexists _; isplitr; swap
    · iexact H7
    ipureintro; exact harg7.read_unread _
  isplitl [H8]
  · iexists _; isplitr; swap
    · iexact H8
    ipureintro; exact harg8.read_unread _
  isplitl [H13]
  · iexists _; isplitr; swap
    · iexact H13
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H15]
  · iexists _; isplitr; swap
    · iexact H15
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H16]
  · iexists _; isplitr; swap
    · iexact H16
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H17]
  · iexists _; isplitr; swap
    · iexact H17
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H18]
  · iexists _; isplitr; swap
    · iexact H18
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  iexists _; isplitr; swap
  · iexact H19
  ipureintro;
  first
  | (simp only [View.read_writes_full, View.readAt_full, View.readCov_full, Memref.IsWhole.read_unread]; done)
  | (sl_unfold_words
     simp only [read_store, read_load, read_cov, View.read_writes_full, View.readAt_full, View.readCov_full, Memref.IsWhole.read_unread]; done)
  | (sl_unfold_words
     simp only [read_store, read_load, read_cov, View.read_writes_full, View.readAt_full, View.readCov_full, Memref.IsWhole.read_unread]
     exact read_put _ _ _ _ (harg19.read_unread s))
  | (sl_unfold_words
     simp only [read_store, read_load, read_cov, View.read_writes_full, View.readAt_full, View.readCov_full, Memref.IsWhole.read_unread]
     exact congrArg (k0_pay4 _) (read_put _ _ _ _ (harg19.read_unread s)))

set_option maxHeartbeats 1000000 in
/-- A middle point: the read key is kept; the running sums of the weighted rows and of the weights take this block's;
    this block's sims of the last row are stored in their place. -/
theorem body_mid (c : Dev nD) (i : grid0.Coords)
    (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x1 .f32) (harg4 : arg4.IsWhole)
    (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S4096x128 .f32) (harg8 : arg8.IsWhole)
    (arg9 : Memref sig .tc .vmem S384x1 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1x256 .f32) (harg12 : arg12.IsWhole)
    (arg13 : Memref sig .tc .vmem S1x1 .f32) (harg13 : arg13.IsWhole) (arg14 : Memref sig .tc .vmem S1x65536 .f32) (harg14 : arg14.IsWhole) (arg15 : Memref sig .tc .vmem S1024x256 .f32) (harg15 : arg15.IsWhole) (arg16 : Memref sig .tc .vmem S1024x128 .f32) (harg16 : arg16.IsWhole)
    (arg17 : Memref sig .tc .vmem S1024x128 .f32) (harg17 : arg17.IsWhole) (arg18 : Memref sig .tc .vmem S1024x1 .f32) (harg18 : arg18.IsWhole) (arg19 : Memref sig .tc .vmem S1x65536 .f32) (harg19 : arg19.IsWhole)
    (h1 : ¬ k0_cond1 i = 1#1) (h2 : ¬ k0_cond2 i = 1#1)
    (x7 : Vec F S4096x128 .f32) (rk : Vec F S1024x128 .f32) (a : Vec F S1024x128 .f32) (l : Vec F S1024x1 .f32) (s : Vec F S1x65536 .f32)
    (K : PUnit → sProp 𝕄) :
    iprop(owns (c : Thread nD τ) arg8 fullShare x7 ∗ owns (c : Thread nD τ) arg16 fullShare rk ∗ owns (c : Thread nD τ) arg17 fullShare a ∗ owns (c : Thread nD τ) arg18 fullShare l ∗ owns (c : Thread nD τ) arg19 fullShare s
        ∗ (iprop(owns (c : Thread nD τ) arg8 fullShare x7 ∗ owns (c : Thread nD τ) arg16 fullShare rk ∗ owns (c : Thread nD τ) arg17 fullShare (k0_pay15 x7 rk a) ∗ owns (c : Thread nD τ) arg18 fullShare (k0_pay14 x7 rk l) ∗ owns (c : Thread nD τ) arg19 fullShare (VecWindow.put s (k0_off1 i) S1x4096.size (k0_pay1 (k0_pay16 x7 rk)))) -∗ K ⟨⟩))
      ⊢ wp frame (wpE (defs₀ (F := F)) Variants.none c none) Set.univ
          (cc0__mann_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mann_kernel_eq_skeleton]; unfold cc0__mann_kernel_skel
  simp only [k0_part2_eq_skeleton]
  unfold owns
  iintro ⟨⟨%f8, %hf8, H8⟩, ⟨%f16, %hf16, H16⟩, ⟨%f17, %hf17, H17⟩, ⟨%f18, %hf18, H18⟩, ⟨%f19, %hf19, H19⟩, Hk⟩
  obtain rfl := harg8.eq_unread hf8; obtain rfl := harg16.eq_unread hf16; obtain rfl := harg17.eq_unread hf17; obtain rfl := harg18.eq_unread hf18; obtain rfl := harg19.eq_unread hf19
  sl_exec (disch := first | sl_exact h1 | sl_exact h2)
  sl_step
  iapply Hk
  isplitl [H8]
  · iexists _; isplitr; swap
    · iexact H8
    ipureintro; exact harg8.read_unread _
  isplitl [H16]
  · iexists _; isplitr; swap
    · iexact H16
    ipureintro; exact harg16.read_unread _
  isplitl [H17]
  · iexists _; isplitr; swap
    · iexact H17
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H18]
  · iexists _; isplitr; swap
    · iexact H18
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  iexists _; isplitr; swap
  · iexact H19
  ipureintro;
  first
  | (simp only [View.read_writes_full, View.readAt_full, View.readCov_full, Memref.IsWhole.read_unread]; done)
  | (sl_unfold_words
     simp only [read_store, read_load, read_cov, View.read_writes_full, View.readAt_full, View.readCov_full, Memref.IsWhole.read_unread]; done)
  | (sl_unfold_words
     simp only [read_store, read_load, read_cov, View.read_writes_full, View.readAt_full, View.readCov_full, Memref.IsWhole.read_unread]
     exact read_put _ _ _ _ (harg19.read_unread s))
  | (sl_unfold_words
     simp only [read_store, read_load, read_cov, View.read_writes_full, View.readAt_full, View.readCov_full, Memref.IsWhole.read_unread]
     exact congrArg (k0_pay4 _) (read_put _ _ _ _ (harg19.read_unread s)))

set_option maxHeartbeats 1000000 in
/-- The last point: after its own block's step the three results made from the finished sums are stored. -/
theorem body_last (c : Dev nD) (i : grid0.Coords)
    (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x1 .f32) (harg4 : arg4.IsWhole)
    (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S4096x128 .f32) (harg8 : arg8.IsWhole)
    (arg9 : Memref sig .tc .vmem S384x1 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1x256 .f32) (harg12 : arg12.IsWhole)
    (arg13 : Memref sig .tc .vmem S1x1 .f32) (harg13 : arg13.IsWhole) (arg14 : Memref sig .tc .vmem S1x65536 .f32) (harg14 : arg14.IsWhole) (arg15 : Memref sig .tc .vmem S1024x256 .f32) (harg15 : arg15.IsWhole) (arg16 : Memref sig .tc .vmem S1024x128 .f32) (harg16 : arg16.IsWhole)
    (arg17 : Memref sig .tc .vmem S1024x128 .f32) (harg17 : arg17.IsWhole) (arg18 : Memref sig .tc .vmem S1024x1 .f32) (harg18 : arg18.IsWhole) (arg19 : Memref sig .tc .vmem S1x65536 .f32) (harg19 : arg19.IsWhole)
    (h1 : ¬ k0_cond1 i = 1#1) (h2 : k0_cond2 i = 1#1)
    (x7 : Vec F S4096x128 .f32) (x8 : Vec F S384x1 .f32) (x9 : Vec F S1x1 .f32) (d10 : Vec F S1024x1 .f32) (d11 : Vec F S1x256 .f32) (d13 : Vec F S1x65536 .f32)
    (h : Vec F S1024x256 .f32) (rk : Vec F S1024x128 .f32) (a : Vec F S1024x128 .f32) (l : Vec F S1024x1 .f32) (s : Vec F S1x65536 .f32)
    (K : PUnit → sProp 𝕄) :
    iprop(owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg12 fullShare d11 ∗ owns (c : Thread nD τ) arg14 fullShare d13 ∗ owns (c : Thread nD τ) arg15 fullShare h ∗ owns (c : Thread nD τ) arg16 fullShare rk ∗ owns (c : Thread nD τ) arg17 fullShare a ∗ owns (c : Thread nD τ) arg18 fullShare l ∗ owns (c : Thread nD τ) arg19 fullShare s
        ∗ (iprop(owns (c : Thread nD τ) arg8 fullShare x7 ∗ owns (c : Thread nD τ) arg9 fullShare x8 ∗ owns (c : Thread nD τ) arg10 fullShare x9 ∗ owns (c : Thread nD τ) arg11 fullShare (k0_pay2 (k0_pay14 x7 rk l) (k0_pay15 x7 rk a) h x8 x9) ∗ owns (c : Thread nD τ) arg12 fullShare (k0_pay3 h) ∗ owns (c : Thread nD τ) arg14 fullShare (k0_pay4 (k0_pay14 x7 rk l) (VecWindow.put s (k0_off1 i) S1x4096.size (k0_pay1 (k0_pay16 x7 rk)))) ∗ owns (c : Thread nD τ) arg15 fullShare h ∗ owns (c : Thread nD τ) arg16 fullShare rk ∗ owns (c : Thread nD τ) arg17 fullShare (k0_pay15 x7 rk a) ∗ owns (c : Thread nD τ) arg18 fullShare (k0_pay14 x7 rk l) ∗ owns (c : Thread nD τ) arg19 fullShare (VecWindow.put s (k0_off1 i) S1x4096.size (k0_pay1 (k0_pay16 x7 rk)))) -∗ K ⟨⟩))
      ⊢ wp frame (wpE (defs₀ (F := F)) Variants.none c none) Set.univ
          (cc0__mann_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mann_kernel_eq_skeleton]; unfold cc0__mann_kernel_skel
  simp only [k0_part2_eq_skeleton]
  unfold owns
  iintro ⟨⟨%f8, %hf8, H8⟩, ⟨%f9, %hf9, H9⟩, ⟨%f10, %hf10, H10⟩, ⟨%f11, %hf11, H11⟩, ⟨%f12, %hf12, H12⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact h1 | sl_exact h2)
  sl_step
  iapply Hk
  isplitl [H8]
  · iexists _; isplitr; swap
    · iexact H8
    ipureintro; exact harg8.read_unread _
  isplitl [H9]
  · iexists _; isplitr; swap
    · iexact H9
    ipureintro; exact harg9.read_unread _
  isplitl [H10]
  · iexists _; isplitr; swap
    · iexact H10
    ipureintro; exact harg10.read_unread _
  isplitl [H11]
  · iexists _; isplitr; swap
    · iexact H11
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H12]
  · iexists _; isplitr; swap
    · iexact H12
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H14]
  · iexists _; isplitr; swap
    · iexact H14
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H15]
  · iexists _; isplitr; swap
    · iexact H15
    ipureintro; exact harg15.read_unread _
  isplitl [H16]
  · iexists _; isplitr; swap
    · iexact H16
    ipureintro; exact harg16.read_unread _
  isplitl [H17]
  · iexists _; isplitr; swap
    · iexact H17
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  isplitl [H18]
  · iexists _; isplitr; swap
    · iexact H18
    ipureintro;
    first
    | (simp only [View.read_writes_full, View.readAt_full, View.readCov_full, Memref.IsWhole.read_unread]; done)
    | (sl_unfold_words
       simp only [read_store, read_load, read_cov, View.read_writes_full, View.readAt_full, View.readCov_full, Memref.IsWhole.read_unread]; done)
    | (sl_unfold_words
       simp only [read_store, read_load, read_cov, View.read_writes_full, View.readAt_full, View.readCov_full, Memref.IsWhole.read_unread]
       exact read_put _ _ _ _ (harg19.read_unread s))
    | (sl_unfold_words
       simp only [read_store, read_load, read_cov, View.read_writes_full, View.readAt_full, View.readCov_full, Memref.IsWhole.read_unread]
       exact congrArg (k0_pay4 _) (read_put _ _ _ _ (harg19.read_unread s)))
  iexists _; isplitr; swap
  · iexact H19
  ipureintro;
  first
  | (simp only [View.read_writes_full, View.readAt_full, View.readCov_full, Memref.IsWhole.read_unread]; done)
  | (sl_unfold_words
     simp only [read_store, read_load, read_cov, View.read_writes_full, View.readAt_full, View.readCov_full, Memref.IsWhole.read_unread]; done)
  | (sl_unfold_words
     simp only [read_store, read_load, read_cov, View.read_writes_full, View.readAt_full, View.readCov_full, Memref.IsWhole.read_unread]
     exact read_put _ _ _ _ (harg19.read_unread s))
  | (sl_unfold_words
     simp only [read_store, read_load, read_cov, View.read_writes_full, View.readAt_full, View.readCov_full, Memref.IsWhole.read_unread]
     exact congrArg (k0_pay4 _) (read_put _ _ _ _ (harg19.read_unread s)))

end Cert.KernelIdeal.Body

end
-- ==== Proof.Run.lean ====
/- The run of the ideal kernel: what each grid point leaves in the scratch buffers and in the output blocks,
   the body's obligation at every point, and the launch. -/
module

public import proofs.«01_k».proof.Proof.Steps

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions on the grid point -/

/-- The first condition holds at the first point only. -/
theorem cond_first (t : Fin cfg0.N) : k0_cond1 (grid0.coords t) = 1#1 ↔ t.val = 0 := by
  have ht : t.val < 16 := Nat.lt_of_lt_of_eq t.isLt N_0
  have e0 : (grid0.coords t 0).val = t.val / 1 % 16 := Pipeline.Grid.coords_val t 0 (by decide) rfl
  simp only [k0_cond1, e0]
  word_cmp

/-- The second condition holds at the last point only. -/
theorem cond_last (t : Fin cfg0.N) : k0_cond2 (grid0.coords t) = 1#1 ↔ t.val = 15 := by
  have ht : t.val < 16 := Nat.lt_of_lt_of_eq t.isLt N_0
  have e0 : (grid0.coords t 0).val = t.val / 1 % 16 := Pipeline.Grid.coords_val t 0 (by decide) rfl
  simp only [k0_cond2, e0]
  word_cmp

/-- The columns of the row of similarities the point's store covers start at 4096 times the point. -/
theorem off_val (t : Fin cfg0.N) : k0_off1 (grid0.coords t) = ![0, 4096 * t.val] := by
  have ht : t.val < 16 := Nat.lt_of_lt_of_eq t.isLt N_0
  have e0 : (grid0.coords t 0).val = t.val / 1 % 16 := Pipeline.Grid.coords_val t 0 (by decide) rfl
  have ew : ((BitVec.ofNat 32 (t.val / 1 % 16) * 4096#32).toNat : ℕ) = 4096 * t.val := by
    rw [BitVec.toNat_mul, BitVec.toNat_ofNat, BitVec.toNat_ofNat]; omega
  funext a
  match a with
  | 0 => rfl
  | 1 => exact (congrArg (fun n => ((BitVec.ofNat 32 n * 4096#32).toNat : ℕ)) e0).trans ew

/-- Outputs 0, 1 and 3 are not stored to away from the last point. -/
theorem idle_of_not_last (t : Fin cfg0.N) (h : t.val ≠ 15) :
    cfg0.idle 10 (grid0.coords t) = true ∧ cfg0.idle 11 (grid0.coords t) = true ∧ cfg0.idle 13 (grid0.coords t) = true := by
  have h' : (!(k0_cond2 (grid0.coords t) == 1#1)) = true := by
    rw [Bool.not_eq_true', beq_eq_false_iff_ne]; exact fun e => h ((cond_last t).mp e)
  exact ⟨h', h', h'⟩

/-- At the last point they are. -/
theorem live_of_last (t : Fin cfg0.N) (h : t.val = 15) :
    cfg0.idle 10 (grid0.coords t) = false ∧ cfg0.idle 11 (grid0.coords t) = false ∧ cfg0.idle 13 (grid0.coords t) = false := by
  have h' : (!(k0_cond2 (grid0.coords t) == 1#1)) = false := by rw [(cond_last t).mpr h]; rfl
  exact ⟨h', h', h'⟩

/-- Output 2 is stored to at the first point only. -/
theorem idle_gate (t : Fin cfg0.N) (h : t.val ≠ 0) : cfg0.idle 12 (grid0.coords t) = true := by
  show (!(k0_cond1 (grid0.coords t) == 1#1)) = true
  rw [Bool.not_eq_true', beq_eq_false_iff_ne]; exact fun e => h ((cond_first t).mp e)

theorem live_gate (t : Fin cfg0.N) (h : t.val = 0) : cfg0.idle 12 (grid0.coords t) = false := by
  show (!(k0_cond1 (grid0.coords t) == 1#1)) = false
  rw [(cond_first t).mpr h]; rfl

/-- No output is written back before the last point. -/
theorem flush_not_last (w : Fin 14) (hw : w = 10 ∨ w = 11 ∨ w = 12 ∨ w = 13) (t : Fin cfg0.N) (h : t.val ≠ 15) :
    (cfg0.win w).flush t = false := by
  have ht : t.val < 16 := Nat.lt_of_lt_of_eq t.isLt N_0
  rw [← Bool.not_eq_true]
  rcases hw with rfl | rfl | rfl | rfl
  · rw [flush0_10]; omega
  · rw [flush0_11]; omega
  · rw [flush0_12]; omega
  · rw [flush0_13]; omega

/-- All are at it. -/
theorem flush_last (w : Fin 14) (hw : w = 10 ∨ w = 11 ∨ w = 12 ∨ w = 13) (t : Fin cfg0.N) (h : t.val = 15) :
    (cfg0.win w).flush t = true := by
  rcases hw with rfl | rfl | rfl | rfl
  · rw [flush0_10]; omega
  · rw [flush0_11]; omega
  · rw [flush0_12]; omega
  · rw [flush0_13]; omega

/-! ## The staging buffers and the scratch -/

abbrev ms0 (t : Fin cfg0.N) : Memref sig .tc .vmem S1024x512 .f32 := win0_0.stage (cfg0.slots t 0)
abbrev ms1 (t : Fin cfg0.N) : Memref sig .tc .vmem S512x256 .f32 := win0_1.stage (cfg0.slots t 1)
abbrev ms2 (t : Fin cfg0.N) : Memref sig .tc .vmem S1x256 .f32 := win0_2.stage (cfg0.slots t 2)
abbrev ms3 (t : Fin cfg0.N) : Memref sig .tc .vmem S512x1 .f32 := win0_3.stage (cfg0.slots t 3)
abbrev ms4 (t : Fin cfg0.N) : Memref sig .tc .vmem S1x1 .f32 := win0_4.stage (cfg0.slots t 4)
abbrev ms5 (t : Fin cfg0.N) : Memref sig .tc .vmem S256x128 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S4096x128 .f32 := win0_7.stage (cfg0.slots t 7)
abbrev ms8 (t : Fin cfg0.N) : Memref sig .tc .vmem S384x1 .f32 := win0_8.stage (cfg0.slots t 8)
abbrev ms9 (t : Fin cfg0.N) : Memref sig .tc .vmem S1x1 .f32 := win0_9.stage (cfg0.slots t 9)
abbrev ms10 (t : Fin cfg0.N) : Memref sig .tc .vmem S1024x1 .f32 := win0_10.stage (cfg0.slots t 10)
abbrev ms11 (t : Fin cfg0.N) : Memref sig .tc .vmem S1x256 .f32 := win0_11.stage (cfg0.slots t 11)
abbrev ms12 (t : Fin cfg0.N) : Memref sig .tc .vmem S1x1 .f32 := win0_12.stage (cfg0.slots t 12)
abbrev ms13 (t : Fin cfg0.N) : Memref sig .tc .vmem S1x65536 .f32 := win0_13.stage (cfg0.slots t 13)
abbrev sc0 : Memref sig .tc .vmem S1024x256 .f32 := Memref.whole cc0_scratch0
abbrev sc1 : Memref sig .tc .vmem S1024x128 .f32 := Memref.whole cc0_scratch1
abbrev sc2 : Memref sig .tc .vmem S1024x128 .f32 := Memref.whole cc0_scratch2
abbrev sc3 : Memref sig .tc .vmem S1024x1 .f32 := Memref.whole cc0_scratch3
abbrev sc4 : Memref sig .tc .vmem S1x65536 .f32 := Memref.whole cc0_scratch4

/-- What the launch hands the region: every scratch buffer at some contents, and the generator register. -/
theorem scratch_any (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## What the points leave -/

/-- The block of 4096 memory rows at point `t`. -/
abbrev mblk (c : Dev nD) (t : Fin cfg0.N) : Vec F S4096x128 .f32 := iblk m c 7 t

/-- The hidden state, as the first point computes it. -/
abbrev hid (c : Dev nD) : Vec F S1024x256 .f32 := k0_pay6 (iblk m c 0 t0_0) (iblk m c 1 t0_0) (iblk m c 2 t0_0)

/-- The scaled read keys, as the first point computes them. -/
abbrev rkey (c : Dev nD) : Vec F S1024x128 .f32 :=
  k0_pay7 (iblk m c 0 t0_0) (iblk m c 1 t0_0) (iblk m c 2 t0_0) (iblk m c 5 t0_0) (iblk m c 6 t0_0)

/-- The last row's gate, as the first point computes it. -/
abbrev gateV (c : Dev nD) : Vec F S1x1 .f32 := k0_pay9 (k0_pay8 (iblk m c 0 t0_0) (iblk m c 3 t0_0)) (iblk m c 4 t0_0)

/-- The accumulator after point `n`. -/
def accAt (c : Dev nD) : (n : ℕ) → n < cfg0.N → Vec F S1024x128 .f32
  | 0, h => k0_pay15 (mblk m c ⟨0, h⟩) (rkey m c) k0_pay10
  | n + 1, h => k0_pay15 (mblk m c ⟨n + 1, h⟩) (rkey m c) (accAt c n (Nat.lt_of_succ_lt h))

/-- The sum of weights after point `n`. -/
def sumAt (c : Dev nD) : (n : ℕ) → n < cfg0.N → Vec F S1024x1 .f32
  | 0, h => k0_pay14 (mblk m c ⟨0, h⟩) (rkey m c) k0_pay11
  | n + 1, h => k0_pay14 (mblk m c ⟨n + 1, h⟩) (rkey m c) (sumAt c n (Nat.lt_of_succ_lt h))

/-- The last row of the similarities of point `t`'s block. -/
abbrev rowAt (c : Dev nD) (t : Fin cfg0.N) : Vec F S1x4096 .f32 := k0_pay1 (k0_pay16 (mblk m c t) (rkey m c))

/-- The last row of all similarities: column `j` is column `j % 4096` of block `j / 4096`. -/
def simRow (c : Dev nD) : Vec F S1x65536 .f32 := fun y =>
  rowAt m c ⟨(y 1).val / 4096, by rw [show cfg0.N = 16 from N_0]; have : (y 1).val < 65536 := (y 1).isLt; omega⟩
    (fun | 0 => (0 : Fin 1) | 1 => (⟨(y 1).val % 4096, Nat.mod_lt _ (by omega)⟩ : Fin 4096))

/-- `s` is that row on its first `n` columns. -/
def agrees (c : Dev nD) (n : ℕ) (s : Vec F S1x65536 .f32) : Prop := ∀ y : S1x65536.Idx, (y 1).val < n → s y = simRow m c y

/-- The store of point `t` extends the agreement by its block. -/
theorem agrees_put (c : Dev nD) (t : Fin cfg0.N) (s : Vec F S1x65536 .f32) (h : agrees m c (4096 * t.val) s) :
    agrees m c (4096 * (t.val + 1)) (VecWindow.put s (k0_off1 (grid0.coords t)) S1x4096.size (rowAt m c t)) := by
  intro y hy
  rw [off_val t]
  unfold VecWindow.put
  by_cases hb : 4096 * t.val ≤ (y 1).val
  · rw [dif_pos (by intro a; match a with
      | 0 => exact ⟨Nat.zero_le _, (y 0).isLt⟩
      | 1 => exact ⟨hb, by show (y 1).val < 4096 * t.val + 4096; omega⟩)]
    have e : (y 1).val / 4096 = t.val := by omega
    have e2 : (y 1).val % 4096 = (y 1).val - 4096 * t.val := by omega
    unfold simRow
    have et : (⟨(y 1).val / 4096, by rw [show cfg0.N = 16 from N_0]; have : (y 1).val < 65536 := (y 1).isLt; omega⟩ : Fin cfg0.N) = t := Fin.ext e
    rw [et]
    refine congrArg (rowAt m c t) (funext fun a => Fin.ext ?_)
    match a with
    | 0 => have := (y 0).isLt; show (y 0).val - 0 = 0; exact Nat.lt_one_iff.mp (lt_of_le_of_lt (Nat.sub_le _ _) this)
    | 1 => exact e2.symm
  · rw [dif_neg (fun hh => hb (hh 1).1)]
    exact h y (by omega)

/-- Full agreement is equality. -/
theorem eq_of_agrees (c : Dev nD) (s : Vec F S1x65536 .f32) (h : agrees m c 65536 s) : s = simRow m c :=
  funext fun y => h y (y 1).isLt

/-- The accumulator and the sum of weights after the last point. -/
abbrev accL (c : Dev nD) : Vec F S1024x128 .f32 := accAt m c 15 (by rw [show cfg0.N = 16 from N_0]; decide)
abbrev sumL (c : Dev nD) : Vec F S1024x1 .f32 := sumAt m c 15 (by rw [show cfg0.N = 16 from N_0]; decide)

/-- The last point. -/
def tl : Fin cfg0.N := ⟨15, by rw [show cfg0.N = 16 from N_0]; decide⟩

/-- The four results. -/
abbrev out0 (c : Dev nD) : Vec F S1024x1 .f32 := k0_pay2 (sumL m c) (accL m c) (hid m c) (iblk m c 8 tl) (iblk m c 9 tl)
abbrev out1 (c : Dev nD) : Vec F S1x256 .f32 := k0_pay3 (hid m c)
abbrev out3 (c : Dev nD) : Vec F S1x65536 .f32 := k0_pay4 (sumL m c) (simRow m c)

/-- The invariant before position `n`: at first anything in the scratch, then what the points so far left. -/
def Phi (c : Dev nD) : (n : ℕ) → n ≤ cfg0.N → sProp 𝕄
  | 0, _ => Pipeline.ΦA spec0 c
  | n + 1, hn => iprop(iprop(owns (c : Thread nD τ) sc0 fullShare (hid m c) ∗ owns (c : Thread nD τ) sc1 fullShare (rkey m c)
      ∗ owns (c : Thread nD τ) sc2 fullShare (accAt m c n hn) ∗ owns (c : Thread nD τ) sc3 fullShare (sumAt m c n hn)
      ∗ (∃ s, ⌜agrees m c (4096 * (n + 1)) s⌝ ∗ owns (c : Thread nD τ) sc4 fullShare s)) ∗ (∃ r, prngReg c r))

/-- The pipeline's proof data: inputs stay at their blocks, and each output's buffer holds its result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0 m c
    | ⟨11, _⟩ => out1 m c
    | ⟨12, _⟩ => gateV m c
    | ⟨13, _⟩ => out3 m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem Phi_succ (c : Dev nD) (t : Fin cfg0.N) : (dats m 0 c).Φ t.succ = Phi m c (t.val + 1) t.isLt := rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, ← after_0 m c t]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, ← after_1 m c t]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, ← after_2 m c t]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, ← after_3 m c t]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, ← after_4 m c t]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, ← after_5 m c t]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, ← after_6 m c t]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, ← after_7 m c t]
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem leaves_8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, ← after_8 m c t]
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem leaves_9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, ← after_9 m c t]
theorem after_10 (c : Dev nD) (t : Fin cfg0.N) : (dats m 0 c).after 10 t = out0 m c := by dsimp only [dats]
theorem after_11 (c : Dev nD) (t : Fin cfg0.N) : (dats m 0 c).after 11 t = out1 m c := by dsimp only [dats]
theorem after_12 (c : Dev nD) (t : Fin cfg0.N) : (dats m 0 c).after 12 t = gateV m c := by dsimp only [dats]
theorem after_13 (c : Dev nD) (t : Fin cfg0.N) : (dats m 0 c).after 13 t = out3 m c := by dsimp only [dats]

/-- From the second point on, output 2's buffer holds the gate the first point stored. -/
theorem before_gate (c : Dev nD) (n : ℕ) : ∀ (hn : n < cfg0.N) (h0 : n ≠ 0) (d), (dats m 0 c).before 12 ⟨n, hn⟩ d = gateV m c := by
  induction n with
  | zero => exact fun _ h => absurd rfl h
  | succ n ih =>
    intro hn _ d
    have hN : cfg0.N = 16 := N_0
    rw [Dat.before_of_pos _ 12 ⟨n + 1, hn⟩ (Nat.succ_ne_zero n) (Window.fetch_out _ rfl _),
      if_neg (by rw [Bool.not_eq_true]; exact flush_not_last 12 (by decide) _ (by show n + 1 - 1 ≠ 15; omega))]
    by_cases hz : n = 0
    · subst hz
      unfold Dat.left
      rw [live_gate _ rfl]
      unfold Dat.kept
      rw [after_12]
      exact Window.fill_cut _ _ _
    · unfold Dat.left
      rw [idle_gate _ (by show n + 1 - 1 ≠ 0; omega)]
      exact ih (by omega) hz d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The body at the first point. -/
theorem body_at_first (c : Dev nD) (t : Fin cfg0.N) (h0 : t.val = 0) :
    bodyPre m c t ⊢ wp frame (wpE (defs₀ (F := F)) Variants.none c none) Set.univ (bodyAt0 t) (fun _ => bodyPost m c t) := by
  have hN : cfg0.N = 16 := N_0
  have h15 : t.val ≠ 15 := by omega
  obtain rfl : t = t0_0 := Fin.ext h0
  have hi := idle_of_not_last t0_0 h15
  unfold bodyPre bodyPost bodyAt0
  rw [show (dats m 0 c).owesAt () t0_0.succ = (dats m 0 c).owesAt () t0_0.castSucc from rfl, Phi_castSucc, Phi_succ]
  simp only [before_0, before_1, before_2, before_3, before_4, before_5, before_6, before_7, before_8, before_9]
  simp only [leaves_0, leaves_1, leaves_2, leaves_3, leaves_4, leaves_5, leaves_6, leaves_7, leaves_8, leaves_9]
  rw [Dat.leavesExact_idle (dats m 0 c) 10 t0_0 hi.1 (flush_not_last 10 (by decide) t0_0 h15), Dat.leavesExact_idle (dats m 0 c) 11 t0_0 hi.2.1 (flush_not_last 11 (by decide) t0_0 h15),
    Dat.leavesExact_idle (dats m 0 c) 13 t0_0 hi.2.2 (flush_not_last 13 (by decide) t0_0 h15),
    show (dats m 0 c).leavesExact 12 t0_0 = owns (c : Thread nD τ) (ms12 t0_0) fullShare (gateV m c) from by
      unfold Dat.leavesExact; rw [live_gate t0_0 h0, ← after_12 m c t0_0]]
  rw [show Phi m c t0_0.val (Nat.le_of_lt t0_0.isLt) = Pipeline.ΦA spec0 c from rfl, scratch_any]
  rw [show Phi m c (t0_0.val + 1) t0_0.isLt = iprop(iprop(owns (c : Thread nD τ) sc0 fullShare (hid m c) ∗ owns (c : Thread nD τ) sc1 fullShare (rkey m c)
      ∗ owns (c : Thread nD τ) sc2 fullShare (k0_pay15 (mblk m c t0_0) (rkey m c) k0_pay10) ∗ owns (c : Thread nD τ) sc3 fullShare (k0_pay14 (mblk m c t0_0) (rkey m c) k0_pay11)
      ∗ (∃ s, ⌜agrees m c (4096 * (t0_0.val + 1)) s⌝ ∗ owns (c : Thread nD τ) sc4 fullShare s)) ∗ (∃ r, prngReg c r)) from rfl]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_first c (grid0.coords t0_0) _ _ _ _ _ _ _ _ _ _ _ _ _ _ _ _ _ _ _ _ _ _ _ _ _ _ _ _ _ _ _ _ _ _ _ _ _ _ ((cond_first t0_0).mpr h0) (fun h => h15 ((cond_last t0_0).mp h)) (iblk m c 0 t0_0) (iblk m c 1 t0_0) (iblk m c 2 t0_0) (iblk m c 3 t0_0) (iblk m c 4 t0_0) (iblk m c 5 t0_0) (iblk m c 6 t0_0) (iblk m c 7 t0_0) _ e0 e1 e2 e3 e4 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [S0]; · iexact S0
  isplitl [S1]; · iexact S1
  isplitl [S2]; · iexact S2
  isplitl [S3]; · iexact S3
  isplitl [S4]; · iexact S4
  iintro ⟨H0, H1, H2, H3, H4, H5, H6, H7, H12, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexists _; isplitr; swap
      · iexact S4
      ipureintro; exact agrees_put m c t0_0 e4 (fun y hy => absurd hy (by show ¬ (y 1).val < 4096 * 0; omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  iexists _; iexact H13

/-- The invariant with the accumulator at `a` and the sum of weights at `l`, on `n` agreeing columns. -/
abbrev held (c : Dev nD) (n : ℕ) (a : Vec F S1024x128 .f32) (l : Vec F S1024x1 .f32) : sProp 𝕄 :=
  iprop(iprop(owns (c : Thread nD τ) sc0 fullShare (hid m c) ∗ owns (c : Thread nD τ) sc1 fullShare (rkey m c)
      ∗ owns (c : Thread nD τ) sc2 fullShare a ∗ owns (c : Thread nD τ) sc3 fullShare l
      ∗ (∃ s, ⌜agrees m c n s⌝ ∗ owns (c : Thread nD τ) sc4 fullShare s)) ∗ (∃ r, prngReg c r))

/-- Past the first point, the invariant before and after a point: the point folds its block in. -/
theorem Phi_step (c : Dev nD) (t : Fin cfg0.N) (h0 : t.val ≠ 0) : ∃ a l,
    Phi m c t.val (Nat.le_of_lt t.isLt) = held m c (4096 * t.val) a l
    ∧ Phi m c (t.val + 1) t.isLt = held m c (4096 * (t.val + 1)) (k0_pay15 (mblk m c t) (rkey m c) a) (k0_pay14 (mblk m c t) (rkey m c) l)
    ∧ accAt m c t.val t.isLt = k0_pay15 (mblk m c t) (rkey m c) a ∧ sumAt m c t.val t.isLt = k0_pay14 (mblk m c t) (rkey m c) l := by
  obtain ⟨n, hn⟩ := t
  cases n with
  | zero => exact absurd rfl h0
  | succ n => exact ⟨accAt m c n (Nat.lt_of_succ_lt hn), sumAt m c n (Nat.lt_of_succ_lt hn), rfl, rfl, rfl, rfl⟩

/-- The body at a point between the first and the last. -/
theorem body_at_mid (c : Dev nD) (t : Fin cfg0.N) (h0 : t.val ≠ 0) (h15 : t.val ≠ 15) :
    bodyPre m c t ⊢ wp frame (wpE (defs₀ (F := F)) Variants.none c none) Set.univ (bodyAt0 t) (fun _ => bodyPost m c t) := by
  have hi := idle_of_not_last t h15
  obtain ⟨a, l, hP, hQ, -, -⟩ := Phi_step m c t h0
  unfold bodyPre bodyPost bodyAt0
  rw [show (dats m 0 c).owesAt () t.succ = (dats m 0 c).owesAt () t.castSucc from rfl, Phi_castSucc, Phi_succ]
  simp only [before_0, before_1, before_2, before_3, before_4, before_5, before_6, before_7, before_8, before_9]
  simp only [leaves_0, leaves_1, leaves_2, leaves_3, leaves_4, leaves_5, leaves_6, leaves_7, leaves_8, leaves_9]
  rw [hP, hQ, Dat.leavesExact_idle (dats m 0 c) 10 t hi.1 (flush_not_last 10 (by decide) t h15), Dat.leavesExact_idle (dats m 0 c) 11 t hi.2.1 (flush_not_last 11 (by decide) t h15),
    Dat.leavesExact_idle (dats m 0 c) 13 t hi.2.2 (flush_not_last 13 (by decide) t h15), Dat.leavesExact_idle (dats m 0 c) 12 t (idle_gate t h0) (flush_not_last 12 (by decide) t h15)]
  iintro ⟨⟨⟨S0, S1, S2, S3, ⟨%s, %hs, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_mid c (grid0.coords t) _ _ _ _ _ _ _ _ _ _ _ _ _ _ _ _ _ _ _ _ _ _ _ _ _ _ _ _ _ _ _ _ _ _ _ _ _ _ (fun h => h0 ((cond_first t).mp h)) (fun h => h15 ((cond_last t).mp h)) (mblk m c t) (rkey m c) a l s _)
  isplitl [H7]; · iexact H7
  isplitl [S1]; · iexact S1
  isplitl [S2]; · iexact S2
  isplitl [S3]; · iexact S3
  isplitl [S4]; · iexact S4
  iintro ⟨H7, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexists _; isplitr; swap
      · iexact S4
      ipureintro; exact agrees_put m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iexists _; iexact H13

/-- The body at the last point: the results are written. -/
theorem body_at_last (c : Dev nD) (t : Fin cfg0.N) (h15 : t.val = 15) :
    bodyPre m c t ⊢ wp frame (wpE (defs₀ (F := F)) Variants.none c none) Set.univ (bodyAt0 t) (fun _ => bodyPost m c t) := by
  have h0 : t.val ≠ 0 := by omega
  obtain rfl : t = tl := Fin.ext h15
  have hi := live_of_last tl h15
  obtain ⟨a, l, hP, hQ, hA, hL⟩ := Phi_step m c tl h0
  unfold bodyPre bodyPost bodyAt0
  rw [show (dats m 0 c).owesAt () tl.succ = (dats m 0 c).owesAt () tl.castSucc from rfl, Phi_castSucc, Phi_succ]
  simp only [before_0, before_1, before_2, before_3, before_4, before_5, before_6, before_7, before_8, before_9]
  simp only [leaves_0, leaves_1, leaves_2, leaves_3, leaves_4, leaves_5, leaves_6, leaves_7, leaves_8, leaves_9]
  rw [hP, hQ]
  rw [show (dats m 0 c).leavesExact 10 tl = owns (c : Thread nD τ) (ms10 tl) fullShare (out0 m c) from by
      unfold Dat.leavesExact; rw [hi.1, ← after_10 m c tl],
    show (dats m 0 c).leavesExact 11 tl = owns (c : Thread nD τ) (ms11 tl) fullShare (out1 m c) from by
      unfold Dat.leavesExact; rw [hi.2.1, ← after_11 m c tl],
    show (dats m 0 c).leavesExact 13 tl = owns (c : Thread nD τ) (ms13 tl) fullShare (out3 m c) from by
      unfold Dat.leavesExact; rw [hi.2.2, ← after_13 m c tl],
    show (dats m 0 c).leavesExact 12 tl = owns (c : Thread nD τ) (ms12 tl) fullShare (gateV m c) from by
      unfold Dat.leavesExact; rw [idle_gate tl h0, flush_last 12 (by decide) tl h15, ← after_12 m c tl]]
  simp only [show ∀ d, (dats m 0 c).before 12 tl d = gateV m c from before_gate m c 15 tl.isLt h0]
  unfold out0 out3 sumL accL
  rw [show accAt m c 15 _ = k0_pay15 (mblk m c tl) (rkey m c) a from hA, show sumAt m c 15 _ = k0_pay14 (mblk m c tl) (rkey m c) l from hL]
  iintro ⟨⟨⟨S0, S1, S2, S3, ⟨%s, %hs, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_last c (grid0.coords tl) _ _ _ _ _ _ _ _ _ _ _ _ _ _ _ _ _ _ _ _ _ _ _ _ _ _ _ _ _ _ _ _ _ _ _ _ _ _ (fun h => h0 ((cond_first tl).mp h)) ((cond_last tl).mpr h15) (mblk m c tl) (iblk m c 8 tl) (iblk m c 9 tl) _ _ _ (hid m c) (rkey m c) a l s _)
  isplitl [H7]; · iexact H7
  isplitl [H8]; · iexact H8
  isplitl [H9]; · iexact H9
  isplitl [H10]; · iexact H10
  isplitl [H11]; · iexact H11
  isplitl [H13]; · iexact H13
  isplitl [S0]; · iexact S0
  isplitl [S1]; · iexact S1
  isplitl [S2]; · iexact S2
  isplitl [S3]; · iexact S3
  isplitl [S4]; · iexact S4
  rw [eq_of_agrees m c _ (agrees_put m c tl s hs)]
  iintro ⟨H7, H8, H9, H10, H11, H13, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexists _; isplitr; swap
      · iexact S4
      ipureintro; exact fun y _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_at_first m c t h0
  by_cases h15 : t.val = 15
  · exact body_at_last m c t h15
  exact body_at_mid m c t h0 h15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  obtain ⟨a, l, -, hQ, -, -⟩ := Phi_step m c tl (by decide)
  rw [show (dats m 0 c).Φ (Fin.last cfg0.N) = Phi m c (tl.val + 1) tl.isLt from rfl, hQ, scratch_any]
  iintro ⟨⟨S0, S1, S2, S3, ⟨%s, %hs, S4⟩⟩, Hg⟩
  isplitr [Hg]
  · isplitl [S0]; · iexists _; iexact S0
    isplitl [S1]; · iexists _; iexact S1
    isplitl [S2]; · iexists _; iexact S2
    isplitl [S3]; · iexists _; iexact S3
    iexists _; iexact S4
  iexact Hg

/-! ## The launch -/

set_option backward.isDefEq.respectTransparency.types false in
/-- Every run ends with each array at what the proof data gives it, everything else unchanged, and the counters at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Body

end
-- ==== Proof.Results.lean ====
/- What the ideal kernel's run leaves in its four result arrays, and what the input blocks hold: every block
   but the memory's is its whole array, and the memory's block at point `t` is rows `4096 t` to `4096 t + 4095`. -/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Results

open Cert.KernelIdeal Cert.KernelIdeal.Gen Cert.KernelIdeal.Body Idealize.ShloMosaic Idealize.ShloMosaic.TcCoe Idealize.SL.Sem Idealize.ShloMosaic.StableHlo Idealize.ShloMosaic.Pipeline

variable (m : (ℓ : Loc nD τ sig) → Buf (Elt Ideal) ℓ) (c : Dev nD)

/-- Every window but the memory's reads block `(0, 0)` at every point; the memory's reads its point's block. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![0, 0] ∧ win0_9.index t = ![0, 0] :=
  (by decide +kernel : ∀ t : Fin grid0.N, _)

/-- The input's block at the first point is its whole array. -/
theorem blk_x : iblk m c 0 t0_0 = m ((c.tc : Thread nD τ).loc main_arg0) := by
  blk_ext! [iblk, V, idx t0_0]

/-- The hidden weights' block at the first point is its whole array. -/
theorem blk_wh : iblk m c 1 t0_0 = m ((c.tc : Thread nD τ).loc main_arg1) := by
  blk_ext! [iblk, V, idx t0_0]

/-- The gate weights' block at the first point is its whole array. -/
theorem blk_wg : iblk m c 3 t0_0 = m ((c.tc : Thread nD τ).loc main_arg3) := by
  blk_ext! [iblk, V, idx t0_0]

/-- The read-key weights' block at the first point is its whole array. -/
theorem blk_wr : iblk m c 5 t0_0 = m ((c.tc : Thread nD τ).loc main_arg5) := by
  blk_ext! [iblk, V, idx t0_0]

/-- The output weights' block at the last point is their whole array. -/
theorem blk_wo : iblk m c 8 tl = m ((c.tc : Thread nD τ).loc main_arg8) := by
  blk_ext! [iblk, V, idx tl]

/-- The hidden bias's block is the bias laid out as one row. -/
theorem blk_bh (i : Fin 256) : (iblk m c 2 t0_0 : FVec Ideal S1x256 .f32) (ix2 0 i) = (m ((c.tc : Thread nD τ).loc main_arg2) : FVec Ideal S256 .f32) (ix1 i) := by
  blk_ext! [iblk, V, idx t0_0]

/-- The gate bias's block is the bias laid out as one row. -/
theorem blk_bg (i : Fin 1) : (iblk m c 4 t0_0 : FVec Ideal S1x1 .f32) (ix2 0 i) = (m ((c.tc : Thread nD τ).loc main_arg4) : FVec Ideal S1 .f32) (ix1 i) := by
  blk_ext! [iblk, V, idx t0_0]

/-- The read-key bias's block is the bias laid out as one row. -/
theorem blk_br (i : Fin 128) : (iblk m c 6 t0_0 : FVec Ideal S1x128 .f32) (ix2 0 i) = (m ((c.tc : Thread nD τ).loc main_arg6) : FVec Ideal S128 .f32) (ix1 i) := by
  blk_ext! [iblk, V, idx t0_0]

/-- The output bias's block is the bias laid out as one row. -/
theorem blk_bo (i : Fin 1) : (iblk m c 9 tl : FVec Ideal S1x1 .f32) (ix2 0 i) = (m ((c.tc : Thread nD τ).loc main_arg9) : FVec Ideal S1 .f32) (ix1 i) := by
  blk_ext! [iblk, V, idx tl]

/-- Row `i` of point `t`'s memory block lies in the memory. -/
theorem row_lt (t : Fin cfg0.N) (i : Fin 4096) : t.val * 4096 + i.val < 65536 := by
  have ht : t.val < 16 := Nat.lt_of_lt_of_eq t.isLt N_0
  omega

/-- Row `i` of the memory's block at point `t` is the memory's row `4096 t + i`. -/
theorem blk_M (t : Fin cfg0.N) (i : Fin 4096) (d : Fin 128) :
    mblk m c t (ix2 i d) = (m ((c.tc : Thread nD τ).loc main_arg7) : FVec Ideal S65536x128 .f32) (ix2 ⟨t.val * 4096 + i.val, row_lt t i⟩ d) := by
  blk_ext! [mblk, iblk, V, idx t]

/-- The first result array after the run is what the last point leaves in its block. -/
theorem arr_of_10 (f : FVec Ideal S1024x1 .f32) (h : (dats m 0 c).after 10 tl = f) : (dats m 0 c).arrAt 10 cfg0.N = f := by
  refine (dats m 0 c).arrAt_eq_of_after_last 10 tl (by decide +kernel) _ fun j => ?_
  rw [h]
  blk_simp
  exact rfl

/-- The first result array after the run. -/
theorem arr_10 : (dats m 0 c).arrAt 10 cfg0.N = out0 m c := arr_of_10 m c _ (after_10 m c tl)

/-- The second result array after the run is what the last point leaves in its block. -/
theorem arr_of_11 (f : FVec Ideal S1x256 .f32) (h : (dats m 0 c).after 11 tl = f) : (dats m 0 c).arrAt 11 cfg0.N = f := by
  refine (dats m 0 c).arrAt_eq_of_after_last 11 tl (by decide +kernel) _ fun j => ?_
  rw [h]
  blk_simp
  exact rfl

/-- The second result array after the run. -/
theorem arr_11 : (dats m 0 c).arrAt 11 cfg0.N = out1 m c := arr_of_11 m c _ (after_11 m c tl)

/-- The third result array after the run is what the last point leaves in its block. -/
theorem arr_of_12 (f : FVec Ideal S1x1 .f32) (h : (dats m 0 c).after 12 tl = f) : (dats m 0 c).arrAt 12 cfg0.N = f := by
  refine (dats m 0 c).arrAt_eq_of_after_last 12 tl (by decide +kernel) _ fun j => ?_
  rw [h]
  blk_simp
  exact rfl

/-- The third result array after the run. -/
theorem arr_12 : (dats m 0 c).arrAt 12 cfg0.N = gateV m c := arr_of_12 m c _ (after_12 m c tl)

/-- The fourth result array after the run is what the last point leaves in its block. -/
theorem arr_of_13 (f : FVec Ideal S1x65536 .f32) (h : (dats m 0 c).after 13 tl = f) : (dats m 0 c).arrAt 13 cfg0.N = f := by
  refine (dats m 0 c).arrAt_eq_of_after_last 13 tl (by decide +kernel) _ fun j => ?_
  rw [h]
  blk_simp
  exact rfl

/-- The fourth result array after the run. -/
theorem arr_13 : (dats m 0 c).arrAt 13 cfg0.N = out3 m c := arr_of_13 m c _ (after_13 m c tl)

end Cert.KernelIdeal.Results

end
-- ==== Proof.KernelTerms.lean ====
/- The kernel's stored values, each read at one element: the hidden layer, the scaled read keys, the gate,
   one block's scaled similarities, the two running sums, and the results. -/
module

public import proofs.«01_k».proof.Proof.Gen.KernelIdeal.Skeleton
public import Idealize.ShloMosaic.Lib.Pointwise

@[expose] public section

set_option maxRecDepth 16384

noncomputable section

namespace Cert.KernelIdeal.Terms

open Cert.KernelIdeal Cert.KernelIdeal.Gen Idealize.ShloMosaic Idealize.ShloMosaic.TcCoe Idealize.SL.Sem Idealize.ShloMosaic.StableHlo

/-- The hidden layer at row `i`, unit `c`. -/
theorem hid_at (x : FVec Ideal S1024x512 .f32) (wh : FVec Ideal S512x256 .f32) (bh : FVec Ideal S1x256 .f32) (i : Fin 1024) (c : Fin 256) :
    k0_pay5 (F := Ideal) x wh bh (ix2 i c) = Ideal.tanh ((∑ d : Fin 512, x (ix2 i d) * wh (ix2 d c)) + bh (ix2 0 c)) := by
  pointwise [k0_pay5]

/-- The hidden layer as stored is the hidden layer. -/
theorem hid_store (x : FVec Ideal S1024x512 .f32) (wh : FVec Ideal S512x256 .f32) (bh : FVec Ideal S1x256 .f32) :
    k0_pay6 (F := Ideal) x wh bh = k0_pay5 (F := Ideal) x wh bh := by
  pointwise [k0_pay6]

/-- The read key at row `i`, component `c`, before it is scaled. -/
def rawKey (h : FVec Ideal S1024x256 .f32) (wr : FVec Ideal S256x128 .f32) (br : FVec Ideal S1x128 .f32) (i : Fin 1024) (c : Fin 128) : EReal :=
  (∑ d : Fin 256, h (ix2 i d) * wr (ix2 d c)) + br (ix2 0 c)

/-- The scaled read key is the read key times the named logarithm over its guarded norm. -/
theorem key_at (x : FVec Ideal S1024x512 .f32) (wh : FVec Ideal S512x256 .f32) (bh : FVec Ideal S1x256 .f32)
    (wr : FVec Ideal S256x128 .f32) (br : FVec Ideal S1x128 .f32) (i : Fin 1024) (c : Fin 128) :
    k0_pay7 (F := Ideal) x wh bh wr br (ix2 i c) = rawKey (k0_pay5 (F := Ideal) x wh bh) wr br i c *
      Ideal.div (Named.named (F := Ideal) κ "log2e" (φ := .f32) 0x3FB8AA3B#32) (Ideal.sqrt (∑ d : Fin 128, rawKey (k0_pay5 (F := Ideal) x wh bh) wr br i d * rawKey (k0_pay5 (F := Ideal) x wh bh) wr br i d) + Ideal.ofBits .f32 0x322BCC77#32) := by
  generalize hh : k0_pay5 (F := Ideal) x wh bh = h
  pointwise [k0_pay7, rawKey, hh]

/-- The gate of the last row. -/
theorem gate_at (x : FVec Ideal S1024x512 .f32) (wg : FVec Ideal S512x1 .f32) (bg : FVec Ideal S1x1 .f32) :
    k0_pay9 (F := Ideal) (k0_pay8 (F := Ideal) x wg) bg (ix2 0 0) = (∑ d : Fin 512, x (ix2 1023 d) * wg (ix2 d 0)) + bg (ix2 0 0) := by
  pointwise [k0_pay9, k0_pay8]

/-- One block's scaled similarity of key `i` with the block's row `j`. -/
theorem sim_at (M : FVec Ideal S4096x128 .f32) (k : FVec Ideal S1024x128 .f32) (i : Fin 1024) (j : Fin 4096) :
    k0_pay12 (F := Ideal) M k (ix2 i j) = ∑ d : Fin 128, k (ix2 i d) * (M (ix2 j d) *
      Ideal.rsqrt ((∑ d' : Fin 128, M (ix2 j d') * M (ix2 j d')) + Ideal.ofBits .f32 0x24E69595#32)) := by
  pointwise [k0_pay12]

/-- The running sum of the powers after one block. -/
theorem sum_at (M : FVec Ideal S4096x128 .f32) (k : FVec Ideal S1024x128 .f32) (l : FVec Ideal S1024x1 .f32) (i : Fin 1024) :
    k0_pay14 (F := Ideal) M k l (ix2 i 0) = l (ix2 i 0) + ∑ j : Fin 4096, Ideal.exp2 (k0_pay12 (F := Ideal) M k (ix2 i j)) := by
  generalize hh : k0_pay12 (F := Ideal) M k = h
  pointwise [k0_pay14, k0_pay13, hh]
  rfl

/-- The running sum of the weighted memory rows after one block. -/
theorem acc_at (M : FVec Ideal S4096x128 .f32) (k : FVec Ideal S1024x128 .f32) (a : FVec Ideal S1024x128 .f32) (i : Fin 1024) (c : Fin 128) :
    k0_pay15 (F := Ideal) M k a (ix2 i c) = a (ix2 i c) + ∑ j : Fin 4096, Ideal.exp2 (k0_pay12 (F := Ideal) M k (ix2 i j)) * M (ix2 j c) := by
  generalize hh : k0_pay12 (F := Ideal) M k = h
  pointwise [k0_pay15, k0_pay13, hh]
  rfl

/-- The running sums start from zero. -/
theorem acc_zero (i : Fin 1024) (c : Fin 128) : k0_pay10 (F := Ideal) (ix2 i c) = (0 : EReal) := by
  pointwise [k0_pay10]

/-- The running sums start from zero. -/
theorem sum_zero (i : Fin 1024) : k0_pay11 (F := Ideal) (ix2 i 0) = (0 : EReal) := by
  pointwise [k0_pay11]

/-- The row of similarities kept is the last one. -/
theorem row_at (M : FVec Ideal S4096x128 .f32) (k : FVec Ideal S1024x128 .f32) (j : Fin 4096) :
    k0_pay1 (F := Ideal) (k0_pay16 (F := Ideal) M k) (ix2 0 j) = k0_pay12 (F := Ideal) M k (ix2 1023 j) := by
  generalize hh : k0_pay12 (F := Ideal) M k = h
  pointwise [k0_pay1, k0_pay16, hh]

/-- The output at row `i`. -/
theorem out_at (l : FVec Ideal S1024x1 .f32) (a : FVec Ideal S1024x128 .f32) (h : FVec Ideal S1024x256 .f32) (wo : FVec Ideal S384x1 .f32)
    (bo : FVec Ideal S1x1 .f32) (i : Fin 1024) :
    k0_pay2 (F := Ideal) l a h wo bo (ix2 i 0) = ((∑ d : Fin 256, h (ix2 i d) * wo (ix2 ⟨d.1, by omega⟩ 0)) +
      ∑ d : Fin 128, Ideal.div (a (ix2 i d)) (l (ix2 i 0)) * wo (ix2 ⟨256 + d.1, by omega⟩ 0)) + bo (ix2 0 0) := by
  pointwise [k0_pay2]

/-- The last row of the hidden layer. -/
theorem last_at (h : FVec Ideal S1024x256 .f32) (c : Fin 256) : k0_pay3 (F := Ideal) h (ix2 0 c) = h (ix2 1023 c) := by
  pointwise [k0_pay3]

/-- The last row's weight of memory row `j`. -/
theorem weight_at (l : FVec Ideal S1024x1 .f32) (s : FVec Ideal S1x65536 .f32) (j : Fin 65536) :
    k0_pay4 (F := Ideal) l s (ix2 0 j) = Ideal.div (Ideal.exp2 (s (ix2 0 j))) (l (ix2 1023 0)) := by
  pointwise [k0_pay4]
  rfl

end Cert.KernelIdeal.Terms

end
-- ==== Proof.Math.lean ====
/- The arithmetic of extended reals behind the kernel's rearrangement of the attention read: scaling the
   keys and the memory rows before their products is dividing the products after; a power of two with
   the logarithm in the exponent is an exponential; taking the row's maximum off first changes no
   weight; and dividing a weighted sum is weighting by the quotients. -/
module

public import Idealize.ShloMosaic.PureOps.Ideal
public import Idealize.ShloMosaic.PureOps.Ideal.Laws
public import Idealize.ShloMosaic.Lib.Pointwise.Sums

@[expose] public section

noncomputable section

namespace Cert.Arith

open Idealize.ShloMosaic

/-- A square is nonnegative. -/
theorem sq_nonneg' (x : EReal) : 0 ≤ x * x := by
  induction x using EReal.rec with
  | bot => simp
  | top => simp
  | coe r => rw [← EReal.coe_mul]; exact_mod_cast mul_self_nonneg r

/-- The square of an infinite number is `⊤`. -/
theorem sq_top {x : EReal} (h : x = ⊥ ∨ x = ⊤) : x * x = ⊤ := by
  rcases h with h | h <;> subst h <;> simp

/-- A sum of coerced reals is the coerced sum. -/
theorem sum_coe {n : ℕ} (f : Fin n → ℝ) : ∑ d, ((f d : ℝ) : EReal) = ((∑ d, f d : ℝ) : EReal) :=
  (map_sum (⟨⟨Real.toEReal, EReal.coe_zero⟩, EReal.coe_add⟩ : ℝ →+ EReal) f Finset.univ).symm

/-- A vector of extended reals is real throughout, or its sum of squares is `⊤`. -/
theorem real_or_top {n : ℕ} (v : Fin n → EReal) :
    (∃ r : Fin n → ℝ, ∀ d, v d = ((r d : ℝ) : EReal)) ∨ ∑ d, v d * v d = ⊤ := by
  by_cases h : ∃ d, v d = ⊥ ∨ v d = ⊤
  · obtain ⟨d, hd⟩ := h
    refine Or.inr (top_le_iff.mp ?_)
    rw [← sq_top hd]
    exact Finset.single_le_sum (f := fun d => v d * v d) (fun i _ => sq_nonneg' (v i)) (Finset.mem_univ d)
  · push Not at h
    exact Or.inl ⟨fun d => (v d).toReal, fun d => (EReal.coe_toReal (h d).2 (h d).1).symm⟩

/-- A guarded norm and the matching reciprocal of a memory row `M`: either the row is real, the norm a
    positive real and the factor its reciprocal, or the norm is `⊤` and the factor zero. -/
def Guarded {n : ℕ} (M : Fin n → EReal) (B u : EReal) : Prop :=
  (∃ (r : Fin n → ℝ) (b : ℝ), 0 < b ∧ (∀ d, M d = ((r d : ℝ) : EReal)) ∧ B = (b : EReal) ∧ u = ((b⁻¹ : ℝ) : EReal))
    ∨ (B = ⊤ ∧ u = 0)

/-- The root of a guarded sum of squares and its reciprocal root are such a pair. -/
theorem guarded_root {n : ℕ} (M : Fin n → EReal) (δ : ℝ) (hδ : 0 < δ) :
    Guarded M (Ideal.sqrt ((∑ d, M d * M d) + (δ : EReal))) (Ideal.rsqrt ((∑ d, M d * M d) + (δ : EReal))) := by
  rcases real_or_top M with ⟨r, hr⟩ | h
  · have hs : (∑ d, M d * M d) + (δ : EReal) = (((∑ d, r d * r d) + δ : ℝ) : EReal) := by
      simp only [hr, ← EReal.coe_mul, sum_coe, EReal.coe_add]
    have hp : 0 < (∑ d, r d * r d) + δ := add_pos_of_nonneg_of_pos (Finset.sum_nonneg fun d _ => mul_self_nonneg _) hδ
    refine Or.inl ⟨r, Real.sqrt ((∑ d, r d * r d) + δ), Real.sqrt_pos.mpr hp, hr, ?_, ?_⟩
    · rw [hs, Ideal.sqrt_coe, if_neg (not_lt.mpr hp.le)]
    · rw [hs, Ideal.rsqrt_coe, if_neg (not_lt.mpr hp.le), if_neg hp.ne']
  · rw [h, EReal.top_add_coe]
    exact Or.inr ⟨rfl, rfl⟩

/-- The root of a sum of squares with a guard added after is a positive real, the vector then being
    real, or `⊤`. -/
theorem guarded_add {n : ℕ} (k : Fin n → EReal) (ε : ℝ) (hε : 0 < ε) :
    (∃ (r : Fin n → ℝ) (a : ℝ), 0 < a ∧ (∀ d, k d = ((r d : ℝ) : EReal)) ∧
        Ideal.sqrt (∑ d, k d * k d) + (ε : EReal) = (a : EReal))
      ∨ Ideal.sqrt (∑ d, k d * k d) + (ε : EReal) = ⊤ := by
  rcases real_or_top k with ⟨r, hr⟩ | h
  · have hs : (∑ d, k d * k d) = ((∑ d, r d * r d : ℝ) : EReal) := by
      simp only [hr, ← EReal.coe_mul, sum_coe]
    have hp : 0 ≤ ∑ d, r d * r d := Finset.sum_nonneg fun d _ => mul_self_nonneg _
    refine Or.inl ⟨r, Real.sqrt (∑ d, r d * r d) + ε, add_pos_of_nonneg_of_pos (Real.sqrt_nonneg _) hε, hr, ?_⟩
    rw [hs, Ideal.sqrt_coe, if_neg (not_lt.mpr hp), EReal.coe_add]
  · rw [h]
    exact Or.inr (EReal.top_add_coe _)

/-- Dividing by `⊤` gives zero. -/
theorem div_top (x : EReal) : Ideal.div x ⊤ = 0 := by
  simp [Ideal.div]

/-- Dividing by a positive real is multiplying by its reciprocal. -/
theorem div_pos_coe (x : EReal) {a : ℝ} (ha : 0 < a) : Ideal.div x (a : EReal) = x * ((a⁻¹ : ℝ) : EReal) := by
  rw [Ideal.div_coe ha.ne' x, one_div]

/-- Similarity, scaled before or divided after: with the key scaled by `L` over its guarded norm and the memory
    row by the reciprocal of its guarded norm, the products' sum is the divided similarity times `L`; and
    the similarity is a real number whatever the key and the row hold. -/
theorem sim_scaled {n : ℕ} (k M : Fin n → EReal) (B u : EReal) (hM : Guarded M B u) (ε L : ℝ) (hε : 0 < ε) :
    ∃ s : ℝ, Ideal.div (∑ d, k d * M d) ((Ideal.sqrt (∑ d, k d * k d) + (ε : EReal)) * B) = (s : EReal)
      ∧ ∑ d, (k d * Ideal.div (L : EReal) (Ideal.sqrt (∑ d, k d * k d) + (ε : EReal))) * (M d * u) = ((s * L : ℝ) : EReal) := by
  have hB : 0 < B := by
    rcases hM with ⟨r, b, hb, -, hB, -⟩ | ⟨hB, -⟩ <;> rw [hB]
    · exact_mod_cast hb
    · exact EReal.zero_lt_top
  rcases guarded_add k ε hε with ⟨r, a, ha, hk, hK⟩ | hK
  · rw [hK]
    rcases hM with ⟨q, b, hb, hq, rfl, rfl⟩ | ⟨rfl, rfl⟩
    · refine ⟨(∑ d, r d * q d) * (a * b)⁻¹, ?_, ?_⟩
      · rw [← EReal.coe_mul, div_pos_coe _ (mul_pos ha hb)]
        simp only [hk, hq, ← EReal.coe_mul, sum_coe]
      · rw [div_pos_coe _ ha]
        simp only [hk, hq, ← EReal.coe_mul, sum_coe]
        congr 1
        rw [Finset.sum_mul, Finset.sum_mul]
        refine Finset.sum_congr rfl fun d _ => ?_
        rw [mul_inv]; ring
    · refine ⟨0, ?_, ?_⟩
      · rw [EReal.coe_mul_top_of_pos ha, div_top, EReal.coe_zero]
      · simp
  · rw [hK]
    refine ⟨0, ?_, ?_⟩
    · rw [EReal.top_mul_of_pos hB, div_top, EReal.coe_zero]
    · simp [div_top]

/-- Two to the power `s / log 2` is the exponential of `s`. -/
theorem exp2_scaled (s : ℝ) : Ideal.exp2 ((s * (Real.log 2)⁻¹ : ℝ) : EReal) = ((Real.exp s : ℝ) : EReal) := by
  show ((Real.rpow 2 (s * (Real.log 2)⁻¹) : ℝ) : EReal) = _
  congr 1
  have h2 : Real.log 2 ≠ 0 := (Real.log_pos (by norm_num)).ne'
  show (2 : ℝ) ^ (s * (Real.log 2)⁻¹) = _
  rw [Real.rpow_def_of_pos (by norm_num), mul_comm s, ← mul_assoc, mul_inv_cancel₀ h2, one_mul]

/-- A softmax weight does not change when one real number `t` is taken off every similarity first. -/
theorem softmax_shift {n : ℕ} (s : Fin n → ℝ) (t : ℝ) (j : Fin n) :
    Ideal.div (Ideal.exp ((s j : EReal) - (t : EReal))) (∑ j', Ideal.exp ((s j' : EReal) - (t : EReal)))
      = ((Real.exp (s j) * (∑ j', Real.exp (s j'))⁻¹ : ℝ) : EReal) := by
  have he : ∀ j, Ideal.exp ((s j : EReal) - (t : EReal)) = ((Real.exp (s j) * Real.exp (-t) : ℝ) : EReal) := by
    intro j
    rw [← EReal.coe_sub]
    show ((Real.exp (s j - t) : ℝ) : EReal) = _
    rw [sub_eq_add_neg, Real.exp_add]
  have hp : 0 < ∑ j', Real.exp (s j') := Finset.sum_pos (fun j' _ => Real.exp_pos _) ⟨j, Finset.mem_univ j⟩
  simp only [he, sum_coe]
  rw [← Finset.sum_mul, div_pos_coe _ (mul_pos hp (Real.exp_pos _)), ← EReal.coe_mul]
  congr 1
  rw [mul_inv]
  have := (Real.exp_pos (-t)).ne'
  field_simp

/-- A nonnegative real factor goes into a sum of extended reals. -/
theorem sum_mul_coe {n : ℕ} (f : Fin n → EReal) {a : ℝ} (ha : 0 ≤ a) :
    (∑ j, f j) * (a : EReal) = ∑ j, f j * (a : EReal) := by
  have h0 : (0 : EReal) ≤ (a : EReal) := by exact_mod_cast ha
  induction n with
  | zero => simp
  | succ n ih =>
    rw [Fin.sum_univ_succ, Fin.sum_univ_succ, EReal.right_distrib_of_nonneg_of_ne_top h0 (EReal.coe_ne_top a), ih]

/-- A weighted sum divided by a positive real is the sum weighted by the divided weights. -/
theorem weighted_div {n : ℕ} (p : Fin n → ℝ) (x : Fin n → EReal) {a : ℝ} (ha : 0 < a) :
    Ideal.div (∑ j, (p j : EReal) * x j) (a : EReal) = ∑ j, ((p j * a⁻¹ : ℝ) : EReal) * x j := by
  rw [div_pos_coe _ ha, sum_mul_coe _ (inv_nonneg.mpr ha.le)]
  refine Finset.sum_congr rfl fun j _ => ?_
  rw [EReal.coe_mul, mul_assoc, mul_assoc, mul_comm (x j)]

/-- The maximum of real numbers, started from the least extended real, over a nonempty set is a real number. -/
theorem fold_max_real {ι : Type} (S : Finset ι) (i₀ : ι) (h₀ : i₀ ∈ S) (x : ι → EReal)
    (hx : ∀ i, ∃ r : ℝ, x i = (r : EReal)) : ∃ t : ℝ, S.fold max ⊥ x = (t : EReal) := by
  have h1 : ⊥ < S.fold max ⊥ x := by
    obtain ⟨r, hr⟩ := hx i₀
    exact (Finset.lt_fold_max _).mpr (Or.inr ⟨i₀, h₀, by rw [hr]; exact EReal.bot_lt_coe r⟩)
  have h2 : S.fold max ⊥ x < ⊤ := (Finset.fold_max_lt _).mpr
    ⟨bot_lt_top, fun i _ => by obtain ⟨r, hr⟩ := hx i; rw [hr]; exact EReal.coe_lt_top r⟩
  exact ⟨_, (EReal.coe_toReal h2.ne h1.ne').symm⟩

/-- A maximum along axes of real numbers, started from the least extended real, is a real number. -/
theorem reduce_max_real {s t u : Shape} {axes : List (Fin s.rank)} (x : FVec Ideal s .f32) (init : FVec Ideal u .f32) (h : s.ReducesTo axes t)
    (hu : 0 < u.numel) (j : t.Idx) (i₀ : s.Idx) (h₀ : h.drop i₀ = j) (hinit : init (Shape.Idx.first hu) = (⊥ : EReal))
    (hx : ∀ i, ∃ r : ℝ, x i = (r : EReal)) :
    ∃ r : ℝ, Host.reduce (FloatOps.maximumf (F := Ideal) (φ := .f32)) x init h hu j = (r : EReal) := by
  rw [Host.reduce_eq_fold, hinit]
  exact fold_max_real _ i₀ (Finset.mem_filter.mpr ⟨Finset.mem_univ _, h₀⟩) x hx

/-- The larger of the least extended real and a real number is a real number. -/
theorem max_bot_real {s : Shape} (a b : FVec Ideal s .f32) (j : s.Idx) (ha : a j = (⊥ : EReal)) (hb : ∃ r : ℝ, b j = (r : EReal)) :
    ∃ r : ℝ, maximumf a b j = (r : EReal) := by
  obtain ⟨r, hr⟩ := hb
  refine ⟨r, ?_⟩
  show max (a j : EReal) (b j) = _
  rw [ha, hr, max_eq_right bot_le]

/-- A sum carried from block to block, each point adding its block of `T` terms, ends at the whole sum. -/
theorem carried_sum {J T N : ℕ} (hN : (J + 1) * T = N) (f : Fin N → EReal) (hlt : ∀ (t : ℕ) (r : Fin T), t < J + 1 → t * T + r.val < N)
    (a : (n : ℕ) → n < J + 1 → EReal)
    (h0 : a 0 (Nat.succ_pos J) = ∑ r : Fin T, f ⟨0 * T + r.val, hlt 0 r (Nat.succ_pos J)⟩)
    (hs : ∀ n (hn : n + 1 < J + 1), a (n + 1) hn = a n (Nat.lt_of_succ_lt hn) + ∑ r : Fin T, f ⟨(n + 1) * T + r.val, hlt (n + 1) r hn⟩) :
    a J (Nat.lt_succ_self J) = ∑ j, f j := by
  have h : ∀ n (hn : n < J + 1), a n hn = ∑ t : Fin (n + 1), ∑ r : Fin T, f ⟨t.val * T + r.val, hlt t.val r (by omega)⟩ := by
    intro n
    induction n with
    | zero => intro hn; rw [Fin.sum_univ_one]; exact h0
    | succ n ih =>
      intro hn
      rw [hs n hn, ih]
      exact (Fin.sum_univ_castSucc (fun t : Fin (n + 1 + 1) => ∑ r : Fin T, f ⟨t.val * T + r.val, hlt t.val r (by omega)⟩)).symm
  rw [h J (Nat.lt_succ_self J), Fin.sum_univ_tiles (J + 1) T hN f]

end Cert.Arith

end
-- ==== Proof.Consts.lean ====
/- The float constants the two programs spell, as extended reals: the guards are positive reals, the
   start of the maximum is the least extended real, and the named logarithm is its real number. -/
module

public import Idealize.ShloMosaic.PureOps.Ideal

@[expose] public section

noncomputable section

namespace Cert.Consts

open Idealize.ShloMosaic

/-- The guard of a read key's norm is a positive real number. -/
theorem guard_key : ∃ r : ℝ, 0 < r ∧ Ideal.ofBits .f32 0x322BCC77#32 = ((r : ℝ) : EReal) := by
  refine ⟨11258999 / 2 ^ 50, by norm_num, ?_⟩
  simp [Ideal.ofBits, Ideal.ieee, -EReal.coe_mul]; norm_num

/-- The guard under the root of a memory row's norm is a positive real number. -/
theorem guard_mem : ∃ r : ℝ, 0 < r ∧ Ideal.ofBits .f32 0x24E69595#32 = ((r : ℝ) : EReal) := by
  refine ⟨15111573 / 2 ^ 77, by norm_num, ?_⟩
  simp [Ideal.ofBits, Ideal.ieee, -EReal.coe_mul]; norm_num

/-- The value a row's maximum starts from is the least extended real. -/
theorem neg_inf : Ideal.ofBits .f32 0xFF800000#32 = (⊥ : EReal) := by
  simp [Ideal.ofBits, Ideal.ieee]

end Cert.Consts

end
-- ==== Proof.RefTerms.lean ====
/- The reference, stage by stage: the generated run states each result as one term over the arguments;
   here that term is cut into its stages (hidden layer, read key, similarities, their exponentials,
   weights, read vector, output) and each stage is read at one element. -/
module

public import proofs.«01_k».proof.Proof.Gen.ReferenceIdeal.Run
public import proofs.«01_k».proof.Proof.Math
public import proofs.«01_k».proof.Proof.Consts
public import Idealize.ShloMosaic.Lib.Pointwise

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

/-- The hidden layer: `tanh (x W_h + b_h)`. -/
def hidden (x : FVec Ideal S1024x512 .f32) (wh : FVec Ideal S512x256 .f32) (bh : FVec Ideal S256 .f32) : FVec Ideal S1024x256 .f32 :=
  Host.tanh (addf (Host.dotGeneral dot_S1024x512_S512x256_S1024x256_1_0_0_1_n_n none x wh) (broadcastInDim S1024x256 ![0, 1] bcast_S1x256_S1024x256_0_1 (broadcastInDim S1x256 ![1] bcast_S256_S1x256_1 bh)))

/-- The write gate's logits: `x W_g + b_g`. -/
def gate (x : FVec Ideal S1024x512 .f32) (wg : FVec Ideal S512x1 .f32) (bg : FVec Ideal S1 .f32) : FVec Ideal S1024x1 .f32 :=
  addf (Host.dotGeneral dot_S1024x512_S512x1_S1024x1_1_0_0_1_n_n none x wg) (broadcastInDim S1024x1 ![0, 1] bcast_S1x1_S1024x1_0_1 (broadcastInDim S1x1 ![1] bcast_S1_S1x1_1 bg))

/-- The read keys: `h W_r + b_r`. -/
def key (h : FVec Ideal S1024x256 .f32) (wr : FVec Ideal S256x128 .f32) (br : FVec Ideal S128 .f32) : FVec Ideal S1024x128 .f32 :=
  addf (Host.dotGeneral dot_S1024x256_S256x128_S1024x128_1_0_0_1_n_n none h wr) (broadcastInDim S1024x128 ![0, 1] bcast_S1x128_S1024x128_0_1 (broadcastInDim S1x128 ![1] bcast_S128_S1x128_1 br))

/-- The guarded norm of each read key. -/
def keyNorm (k : FVec Ideal S1024x128 .f32) : FVec Ideal S1024x1 .f32 :=
  addf (Host.sqrt (broadcastInDim S1024x1 ![0] bcast_S1024_S1024x1_0 (Host.reduceAdd (mulf k k) (constant S_ .f32 0x00000000#32) reducesTo_S1024x128_S1024_d1 h_S_))) (broadcastInDim S1024x1 ![] bcast_S_S1024x1 (constant S_ .f32 0x322BCC77#32))

/-- The guarded norm of each memory row. -/
def memNorm (M : FVec Ideal S65536x128 .f32) : FVec Ideal S65536 .f32 :=
  Host.sqrt (addf (Host.reduceAdd (mulf M M) (constant S_ .f32 0x00000000#32) reducesTo_S65536x128_S65536_d1 h_S_) (broadcastInDim S65536 ![] bcast_S_S65536 (constant S_ .f32 0x24E69595#32)))

/-- The similarities of the keys with the memory rows. -/
def sim (k : FVec Ideal S1024x128 .f32) (M : FVec Ideal S65536x128 .f32) : FVec Ideal S1024x65536 .f32 :=
  Host.divf (Host.dotGeneral dot_S1024x128_S128x65536_S1024x65536_1_0_0_1_n_n none k (transpose S128x65536 [1, 0] M transposes_S65536x128_S128x65536_1_0)) (mulf (broadcastInDim S1024x65536 ![0, 1] bcast_S1024x1_S1024x65536_0_1 (keyNorm k)) (broadcastInDim S1024x65536 ![0, 1] bcast_S1x65536_S1024x65536_0_1 (broadcastInDim S1x65536 ![1] bcast_S65536_S1x65536_1 (memNorm M))))

/-- The largest similarity of each row. -/
def top (s : FVec Ideal S1024x65536 .f32) : FVec Ideal S1024 .f32 :=
  maximumf (broadcastInDim S1024 ![] bcast_S_S1024 (constant S_ .f32 0xFF800000#32)) (Host.reduce FloatOps.maximumf s (constant S_ .f32 0xFF800000#32) reducesTo_S1024x65536_S1024_d1 h_S_)

/-- The exponentials of the similarities, the row's largest taken off. -/
def expo (s : FVec Ideal S1024x65536 .f32) : FVec Ideal S1024x65536 .f32 :=
  Host.exp (subf s (broadcastInDim S1024x65536 ![0, 1] bcast_S1024x1_S1024x65536_0_1 (broadcastInDim S1024x1 ![0] bcast_S1024_S1024x1_0 (top s))))

/-- The read weights: the exponentials over their row's sum. -/
def weight (s : FVec Ideal S1024x65536 .f32) : FVec Ideal S1024x65536 .f32 :=
  Host.divf (expo s) (broadcastInDim S1024x65536 ![0, 1] bcast_S1024x1_S1024x65536_0_1 (broadcastInDim S1024x1 ![0] bcast_S1024_S1024x1_0 (Host.reduceAdd (expo s) (constant S_ .f32 0x00000000#32) reducesTo_S1024x65536_S1024_d1 h_S_)))

/-- The read vectors: the weights times the memory. -/
def readV (w : FVec Ideal S1024x65536 .f32) (M : FVec Ideal S65536x128 .f32) : FVec Ideal S1024x128 .f32 :=
  Host.dotGeneral dot_S1024x65536_S65536x128_S1024x128_1_0_0_1_n_n none w M

/-- The output layer on the hidden layer and the read vectors side by side. -/
def output (h : FVec Ideal S1024x256 .f32) (r : FVec Ideal S1024x128 .f32) (wo : FVec Ideal S384x1 .f32) (bo : FVec Ideal S1 .f32) : FVec Ideal S1024x1 .f32 :=
  addf (Host.dotGeneral dot_S1024x384_S384x1_S1024x1_1_0_0_1_n_n none (concatenate S1024x384 1 [⟨S1024x256, h⟩, ⟨S1024x128, r⟩] concatenates_S1024x256_S1024x128_S1024x384_d1) wo) (broadcastInDim S1024x1 ![0, 1] bcast_S1x1_S1024x1_0_1 (broadcastInDim S1x1 ![1] bcast_S1_S1x1_1 bo))

theorem hidden_at (x wh bh) (i : Fin 1024) (c : Fin 256) :
    hidden x wh bh (ix2 i c) = Ideal.tanh ((∑ d : Fin 512, x (ix2 i d) * wh (ix2 d c)) + bh (ix1 c)) := by
  pointwise [hidden]

theorem gate_at (x wg bg) (i : Fin 1024) :
    gate x wg bg (ix2 i 0) = ((∑ d : Fin 512, x (ix2 i d) * wg (ix2 d 0)) + bg (ix1 0)) := by
  pointwise [gate]

theorem key_at (h wr br) (i : Fin 1024) (c : Fin 128) :
    key h wr br (ix2 i c) = ((∑ d : Fin 256, h (ix2 i d) * wr (ix2 d c)) + br (ix1 c)) := by
  pointwise [key]

theorem keyNorm_at (k) (i : Fin 1024) :
    keyNorm k (ix2 i 0) = Ideal.sqrt (∑ d : Fin 128, k (ix2 i d) * k (ix2 i d)) + Ideal.ofBits .f32 0x322BCC77#32 := by
  pointwise [keyNorm]

theorem memNorm_at (M) (j : Fin 65536) :
    memNorm M (ix1 j) = Ideal.sqrt ((∑ d : Fin 128, M (ix2 j d) * M (ix2 j d)) + Ideal.ofBits .f32 0x24E69595#32) := by
  pointwise [memNorm]

theorem sim_at (k M) (i : Fin 1024) (j : Fin 65536) :
    sim k M (ix2 i j) = Ideal.div (∑ d : Fin 128, k (ix2 i d) * M (ix2 j d)) (keyNorm k (ix2 i 0) * memNorm M (ix1 j)) := by
  pointwise [sim]

theorem expo_at (s) (i : Fin 1024) (j : Fin 65536) :
    expo s (ix2 i j) = Ideal.exp (s (ix2 i j) - top s (ix1 i)) := by
  pointwise [expo]

theorem weight_at (s) (i : Fin 1024) (j : Fin 65536) :
    weight s (ix2 i j) = Ideal.div (expo s (ix2 i j)) (∑ j' : Fin 65536, expo s (ix2 i j')) := by
  pointwise [weight]

theorem readV_at (w M) (i : Fin 1024) (c : Fin 128) :
    readV w M (ix2 i c) = ∑ j : Fin 65536, w (ix2 i j) * M (ix2 j c) := by
  pointwise [readV]

theorem output_at (h r wo bo) (i : Fin 1024) :
    output h r wo bo (ix2 i 0) = ((∑ d : Fin 256, h (ix2 i d) * wo (ix2 ⟨d.1, by omega⟩ 0)) + ∑ d : Fin 128, r (ix2 i d) * wo (ix2 ⟨256 + d.1, by omega⟩ 0)) + bo (ix1 0) := by
  pointwise [output]

/-- Dropping the second coordinate of an index leaves the first. -/
theorem drop_row (i : Fin 1024) : reducesTo_S1024x65536_S1024_d1.drop (ix2 i 0) = ix1 i := by
  funext b
  obtain rfl : b = 0 := Subsingleton.elim _ _
  exact Fin.ext (reducesTo_S1024x65536_S1024_d1.drop_apply_val_of_eq (ix2 i 0) 0 0)

/-- The value a row's maximum starts from. -/
theorem start_at : (constant S_ .f32 0xFF800000#32 : FVec Ideal S_ .f32) (Shape.Idx.first h_S_) = (⊥ : EReal) := Cert.Consts.neg_inf

/-- The value every row's maximum is compared with. -/
theorem floor_at (i : Fin 1024) : (broadcastInDim S1024 ![] bcast_S_S1024 (constant S_ .f32 0xFF800000#32 : FVec Ideal S_ .f32)) (ix1 i) = (⊥ : EReal) :=
  Cert.Consts.neg_inf

/-- The row's largest similarity, where every similarity is a real number, is a real number. -/
theorem top_real (s : FVec Ideal S1024x65536 .f32) (hs : ∀ i, ∃ r : ℝ, s i = (r : EReal)) (i : Fin 1024) :
    ∃ t : ℝ, top s (ix1 i) = (t : EReal) := by
  unfold top
  exact Cert.Arith.max_bot_real _ _ _ (floor_at i) (Cert.Arith.reduce_max_real s _ _ _ _ (ix2 i 0) (drop_row i) start_at hs)

section
variable (m : (ℓ : Loc nD τ sig) → Buf (Elt Ideal) ℓ) (c : Dev nD)

/-- The hidden layer over the reference's arguments. -/
def hiddenM : FVec Ideal S1024x256 .f32 :=
  hidden (m ((c.tc : Thread nD τ).loc main_arg0)) (m ((c.tc : Thread nD τ).loc main_arg1)) (m ((c.tc : Thread nD τ).loc main_arg2))

/-- The similarities over the reference's arguments. -/
def simM : FVec Ideal S1024x65536 .f32 :=
  sim (key (hiddenM m c) (m ((c.tc : Thread nD τ).loc main_arg5)) (m ((c.tc : Thread nD τ).loc main_arg6))) (m ((c.tc : Thread nD τ).loc main_arg7))

/-- The generated run's first result is the output stage on the stages before it. -/
theorem res44 :
    Cert.ReferenceIdeal.Value.res_main_v44 m c = output (hiddenM m c) (readV (weight (simM m c)) (m ((c.tc : Thread nD τ).loc main_arg7)))
      (m ((c.tc : Thread nD τ).loc main_arg8)) (m ((c.tc : Thread nD τ).loc main_arg9)) := rfl

/-- The generated run's fourth result is the last row of the weights. -/
theorem res47 :
    Cert.ReferenceIdeal.Value.res_main_v47 m c = extractStridedSlice S1x65536 ![1023, 0] (weight (simM m c)) slices_S1024x65536_S1x65536_1023_0 := rfl

end

/-- Row 1023 of a 256-column array, cut out. -/
theorem last_hidden (h : FVec Ideal S1024x256 .f32) (d : Fin 256) :
    extractStridedSlice S1x256 ![1023, 0] h slices_S1024x256_S1x256_1023_0 (ix2 0 d) = h (ix2 1023 d) := by
  pointwise []

/-- Row 1023 of a one-column array, cut out. -/
theorem last_gate (g : FVec Ideal S1024x1 .f32) :
    extractStridedSlice S1x1 ![1023, 0] g slices_S1024x1_S1x1_1023_0 (ix2 0 0) = g (ix2 1023 0) := by
  pointwise []

/-- Row 1023 of the weights, cut out. -/
theorem last_weight (w : FVec Ideal S1024x65536 .f32) (j : Fin 65536) :
    extractStridedSlice S1x65536 ![1023, 0] w slices_S1024x65536_S1x65536_1023_0 (ix2 0 j) = w (ix2 1023 j) := by
  pointwise []

end Cert.ReferenceIdeal.Stage
-- ==== Proof.Value.lean ====
/- The kernel's four results are the reference's stages over the kernel's arguments: its hidden layer and gate
   are theirs, its blocks' scaled similarities are the similarities over `log 2`, its two running sums end at the
   sums over the whole memory, and so its weights and its output are the reference's. -/
module

public import proofs.«01_k».proof.Proof.Results
public import proofs.«01_k».proof.Proof.KernelTerms
public import proofs.«01_k».proof.Proof.RefTerms

@[expose] public section

set_option maxRecDepth 16384

noncomputable section

namespace Cert.KernelIdeal.Equal

open Cert.KernelIdeal Cert.KernelIdeal.Gen Cert.KernelIdeal.Body Cert.KernelIdeal.Results Cert.KernelIdeal.Terms
open Idealize.ShloMosaic Idealize.ShloMosaic.TcCoe Idealize.SL.Sem Idealize.ShloMosaic.StableHlo Idealize.ShloMosaic.Pipeline

variable (m : (ℓ : Loc nD τ sig) → Buf (Elt Ideal) ℓ) (c : Dev nD)

/-- The memory. -/
def Mem : FVec Ideal S65536x128 .f32 := m ((c.tc : Thread nD τ).loc main_arg7)

/-- The reference's hidden layer over the kernel's arguments. -/
def H : FVec Ideal S1024x256 .f32 :=
  Cert.ReferenceIdeal.Stage.hidden (m ((c.tc : Thread nD τ).loc main_arg0)) (m ((c.tc : Thread nD τ).loc main_arg1)) (m ((c.tc : Thread nD τ).loc main_arg2))

/-- The reference's read keys over the kernel's arguments. -/
def K : FVec Ideal S1024x128 .f32 :=
  Cert.ReferenceIdeal.Stage.key (H m c) (m ((c.tc : Thread nD τ).loc main_arg5)) (m ((c.tc : Thread nD τ).loc main_arg6))

/-- The reference's similarities over the kernel's arguments. -/
def S : FVec Ideal Cert.ReferenceIdeal.S1024x65536 .f32 := Cert.ReferenceIdeal.Stage.sim (K m c) (Mem m c)

/-- The kernel's hidden layer is the reference's. -/
theorem hid_eq : k0_pay5 (F := Ideal) (iblk m c 0 t0_0) (iblk m c 1 t0_0) (iblk m c 2 t0_0) = H m c := by
  funext j
  obtain ⟨i, d, rfl⟩ : ∃ (i : Fin 1024) (d : Fin 256), j = ix2 i d := ⟨j 0, j 1, eq_ix2 j⟩
  rw [hid_at, blk_x, blk_wh, H, Cert.ReferenceIdeal.Stage.hidden_at]
  congr 2
  exact blk_bh m c d

/-- The kernel's read key, before it is scaled, is the reference's. -/
theorem rawKey_eq (i : Fin 1024) (d : Fin 128) :
    rawKey (k0_pay5 (F := Ideal) (iblk m c 0 t0_0) (iblk m c 1 t0_0) (iblk m c 2 t0_0)) (iblk m c 5 t0_0) (iblk m c 6 t0_0) i d = K m c (ix2 i d) := by
  rw [hid_eq, rawKey, K, Cert.ReferenceIdeal.Stage.key_at, blk_wr]
  congr 1
  exact blk_br m c d

/-- The named logarithm is the reciprocal of `log 2`. -/
theorem log2e_eq : Named.named (F := Ideal) κ "log2e" (φ := .f32) 0x3FB8AA3B#32 = (((Real.log 2)⁻¹ : ℝ) : EReal) :=
  IdealRules.named_const.ideal_named_scalar _ _ _ _ rfl

/-- The factor the kernel scales memory row `j` by. -/
def memInv (j : Fin 65536) : EReal :=
  Ideal.rsqrt ((∑ d : Fin 128, Mem m c (ix2 j d) * Mem m c (ix2 j d)) + Ideal.ofBits .f32 0x24E69595#32)

/-- The reference's memory norms and the kernel's factors match. -/
theorem mem_guarded (j : Fin 65536) :
    Cert.Arith.Guarded (fun d : Fin 128 => Mem m c (ix2 j d)) (Cert.ReferenceIdeal.Stage.memNorm (Mem m c) (ix1 j)) (memInv m c j) := by
  obtain ⟨δ, hδ, e⟩ := Cert.Consts.guard_mem
  rw [Cert.ReferenceIdeal.Stage.memNorm_at, memInv, e]
  exact Cert.Arith.guarded_root _ δ hδ

/-- Every similarity is a real number, and the kernel's scaled product is that number over `log 2`. -/
theorem sim_real (i : Fin 1024) (j : Fin 65536) : ∃ s : ℝ, S m c (ix2 i j) = ((s : ℝ) : EReal)
    ∧ ∑ d : Fin 128, (rkey m c (ix2 i d) : EReal) * (Mem m c (ix2 j d) * memInv m c j) = ((s * (Real.log 2)⁻¹ : ℝ) : EReal) := by
  obtain ⟨ε, hε, e⟩ := Cert.Consts.guard_key
  obtain ⟨s, h1, h2⟩ := Cert.Arith.sim_scaled (fun d : Fin 128 => K m c (ix2 i d)) (fun d : Fin 128 => Mem m c (ix2 j d)) _ _ (mem_guarded m c j) ε (Real.log 2)⁻¹ hε
  refine ⟨s, ?_, ?_⟩
  · rw [S, Cert.ReferenceIdeal.Stage.sim_at, Cert.ReferenceIdeal.Stage.keyNorm_at, e]
    exact h1
  · rw [← h2]
    refine Finset.sum_congr rfl fun d _ => ?_
    rw [rkey, key_at, log2e_eq, e]
    simp only [rawKey_eq]

/-- The similarity of key `i` with memory row `j`, as a real number. -/
def s (i : Fin 1024) (j : Fin 65536) : ℝ := (sim_real m c i j).choose

/-- It is the reference's similarity. -/
theorem S_at (i : Fin 1024) (j : Fin 65536) : S m c (ix2 i j) = ((s m c i j : ℝ) : EReal) := (sim_real m c i j).choose_spec.1

/-- A block's scaled similarity is the similarity over `log 2`. -/
theorem blk_sim (t : Fin cfg0.N) (i : Fin 1024) (r : Fin 4096) :
    k0_pay12 (F := Ideal) (mblk m c t) (rkey m c) (ix2 i r) = ((s m c i ⟨t.val * 4096 + r.val, row_lt t r⟩ * (Real.log 2)⁻¹ : ℝ) : EReal) := by
  rw [sim_at]
  simp only [blk_M]
  exact (sim_real m c i _).choose_spec.2

/-- Its power of two is the similarity's exponential. -/
theorem blk_exp (t : Fin cfg0.N) (i : Fin 1024) (r : Fin 4096) :
    Ideal.exp2 (k0_pay12 (F := Ideal) (mblk m c t) (rkey m c) (ix2 i r)) = ((Real.exp (s m c i ⟨t.val * 4096 + r.val, row_lt t r⟩) : ℝ) : EReal) := by
  rw [blk_sim, Cert.Arith.exp2_scaled]

/-- The running sum of the powers ends at the sum of the exponentials over the whole memory. -/
theorem sumL_at (i : Fin 1024) : (sumL m c (ix2 i 0) : EReal) = ((∑ j, Real.exp (s m c i j) : ℝ) : EReal) := by
  rw [← Cert.Arith.sum_coe]
  refine Cert.Arith.carried_sum (J := 15) (T := 4096) (by norm_num) (fun j : Fin 65536 => ((Real.exp (s m c i j) : ℝ) : EReal)) (fun t r ht => by omega)
    (fun n hn => sumAt m c n (Nat.lt_of_lt_of_eq hn N_0.symm) (ix2 i 0)) ?_ fun n hn => ?_
  · show sumAt m c 0 _ (ix2 i 0) = _
    rw [sumAt, sum_at, sum_zero, zero_add]
    exact Finset.sum_congr rfl fun r _ => blk_exp m c ⟨0, _⟩ i r
  · show sumAt m c (n + 1) _ (ix2 i 0) = _
    rw [sumAt, sum_at]
    exact congrArg (_ + ·) (Finset.sum_congr rfl fun r _ => blk_exp m c ⟨n + 1, _⟩ i r)

/-- The running sum of the weighted rows ends at the weighted sum over the whole memory. -/
theorem accL_at (i : Fin 1024) (d : Fin 128) :
    (accL m c (ix2 i d) : EReal) = ∑ j : Fin 65536, ((Real.exp (s m c i j) : ℝ) : EReal) * Mem m c (ix2 j d) := by
  refine Cert.Arith.carried_sum (J := 15) (T := 4096) (by norm_num) (fun j : Fin 65536 => ((Real.exp (s m c i j) : ℝ) : EReal) * Mem m c (ix2 j d)) (fun t r ht => by omega)
    (fun n hn => Body.accAt m c n (Nat.lt_of_lt_of_eq hn N_0.symm) (ix2 i d)) ?_ fun n hn => ?_
  · show Body.accAt m c 0 _ (ix2 i d) = _
    rw [Body.accAt, acc_at, acc_zero, zero_add]
    exact Finset.sum_congr rfl fun r _ => by rw [blk_exp, blk_M]; rfl
  · show Body.accAt m c (n + 1) _ (ix2 i d) = _
    rw [Body.accAt, acc_at]
    congr 1
    exact Finset.sum_congr rfl fun r _ => by rw [blk_exp, blk_M]; rfl

/-- The kept row of scaled similarities is the last key's similarities over `log 2`. -/
theorem simRow_at (j : Fin 65536) : (simRow m c (ix2 0 j) : EReal) = ((s m c 1023 j * (Real.log 2)⁻¹ : ℝ) : EReal) := by
  have hj : j.val / 4096 < cfg0.N := by rw [show cfg0.N = 16 from N_0]; omega
  have hr : j.val % 4096 < 4096 := Nat.mod_lt _ (by omega)
  have e : (⟨j.val / 4096 * 4096 + j.val % 4096, row_lt ⟨j.val / 4096, hj⟩ ⟨j.val % 4096, hr⟩⟩ : Fin 65536) = j :=
    Fin.ext (by show j.val / 4096 * 4096 + j.val % 4096 = j.val; omega)
  have h := blk_sim m c ⟨j.val / 4096, hj⟩ 1023 ⟨j.val % 4096, hr⟩
  rw [← row_at, e] at h
  rw [← h]
  refine congrArg (rowAt m c ⟨j.val / 4096, hj⟩) ?_
  funext a
  fin_cases a <;> rfl

/-- The sum of a row's exponentials is positive. -/
theorem sum_pos (i : Fin 1024) : 0 < ∑ j, Real.exp (s m c i j) :=
  Finset.sum_pos (fun j _ => Real.exp_pos _) ⟨0, Finset.mem_univ _⟩

/-- The reference's weight is the exponential of the similarity over the row's sum. -/
theorem weight_eq (i : Fin 1024) (j : Fin 65536) : Cert.ReferenceIdeal.Stage.weight (S m c) (ix2 i j)
    = ((Real.exp (s m c i j) * (∑ j', Real.exp (s m c i j'))⁻¹ : ℝ) : EReal) := by
  obtain ⟨t, ht⟩ := Cert.ReferenceIdeal.Stage.top_real (S m c) (fun y => by
    obtain ⟨a, b, rfl⟩ : ∃ (a : Fin 1024) (b : Fin 65536), y = ix2 a b := ⟨y 0, y 1, eq_ix2 y⟩
    exact ⟨_, S_at m c a b⟩) i
  rw [Cert.ReferenceIdeal.Stage.weight_at]
  simp only [Cert.ReferenceIdeal.Stage.expo_at, S_at, ht]
  exact Cert.Arith.softmax_shift (s m c i) t j

/-- The kernel's quotient of the running sums is the reference's read vector. -/
theorem read_eq (i : Fin 1024) (d : Fin 128) : Ideal.div (accL m c (ix2 i d)) (sumL m c (ix2 i 0))
    = Cert.ReferenceIdeal.Stage.readV (Cert.ReferenceIdeal.Stage.weight (S m c)) (Mem m c) (ix2 i d) := by
  rw [accL_at, sumL_at, Cert.ReferenceIdeal.Stage.readV_at, Cert.Arith.weighted_div _ _ (sum_pos m c i)]
  exact Finset.sum_congr rfl fun j _ => by rw [weight_eq]

/-- The first result: the output. -/
theorem out0_eq : out0 m c = Cert.ReferenceIdeal.Stage.output (H m c) (Cert.ReferenceIdeal.Stage.readV (Cert.ReferenceIdeal.Stage.weight (S m c)) (Mem m c))
    (m ((c.tc : Thread nD τ).loc main_arg8)) (m ((c.tc : Thread nD τ).loc main_arg9)) := by
  funext y
  obtain ⟨i, z, rfl⟩ : ∃ (i : Fin 1024) (z : Fin 1), y = ix2 i z := ⟨y 0, y 1, eq_ix2 y⟩
  obtain rfl : z = 0 := Subsingleton.elim _ _
  rw [out0, out_at, Cert.ReferenceIdeal.Stage.output_at, hid, hid_store, hid_eq, blk_wo]
  simp only [read_eq]
  congr 1
  exact blk_bo m c 0

/-- The second result: the last row of the hidden layer. -/
theorem out1_eq (d : Fin 256) : out1 m c (ix2 0 d) = H m c (ix2 1023 d) := by
  rw [out1, last_at, hid, hid_store, hid_eq]

/-- The third result: the last row of the gate. -/
theorem gate_eq : gateV m c (ix2 0 0) = Cert.ReferenceIdeal.Stage.gate (m ((c.tc : Thread nD τ).loc main_arg0)) (m ((c.tc : Thread nD τ).loc main_arg3))
    (m ((c.tc : Thread nD τ).loc main_arg4)) (ix2 1023 0) := by
  rw [gateV, gate_at, Cert.ReferenceIdeal.Stage.gate_at, blk_x, blk_wg]
  congr 1
  exact blk_bg m c 0

/-- The fourth result: the last row of the weights. -/
theorem out3_eq (j : Fin 65536) : out3 m c (ix2 0 j) = Cert.ReferenceIdeal.Stage.weight (S m c) (ix2 1023 j) := by
  rw [out3, weight_at, simRow_at, sumL_at, weight_eq, Cert.Arith.exp2_scaled, Cert.Arith.div_pos_coe _ (sum_pos m c 1023), ← EReal.coe_mul]

end Cert.KernelIdeal.Equal

end
-- ==== Proof.Claims.lean ====
/- The claims about the ideal kernel and the reference: their frames, the named logarithm, and the equality of the ideal kernel's four results
   with the reference's. -/
module

public import proofs.«01_k».proof.Defs
public import proofs.«01_k».proof.Proof.Value
public import Idealize.ShloMosaic.Adequacy
public import Idealize.ShloMosaic.Init

@[expose] public section

set_option maxRecDepth 16384

noncomputable section

namespace Cert.Proof.Claims

open Idealize.ShloMosaic Idealize.ShloMosaic.TcCoe Idealize.SL.Sem Idealize.ShloMosaic.StableHlo
open Cert.KernelIdeal.Equal

section
open Cert.KernelIdeal Cert.KernelIdeal.Gen Cert.KernelIdeal.Body Cert.KernelIdeal.Results

/-- Over any floats, with the constant at any value, the kernel runs to the end with its arguments unchanged and
    its counters at zero. -/
theorem frame_any {F : FTy → Type} [FloatOps F] [Named F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  θ_run_and (frame_of m ρ (dats m) (A_eq m) ((θ_run defs _ _).mono (fun _ h => h.1) (run m ρ))) ((θ_run defs _ _).mono (fun _ h => h.2) (run m ρ))

variable (m : (ℓ : Loc nD τ sig) → Buf (Elt Ideal) ℓ) (ρ : Dev nD → PrngReg)

/-- The ideal kernel runs to the end with its arguments unchanged and its counters at zero. -/
theorem frame_ideal : Cert.quiescent_KernelIdeal := fun m ρ _ => frame_any m ρ

/-- The ideal kernel's run, read at its results. -/
theorem run_results : θ_run defs (onTc (τ := τ) (main (F := Ideal))) ⟨m, fun _ => 0, ρ⟩ fun r => ∀ c : Dev nD,
    r.2.mem ((c.tc : Thread nD τ).loc main_v4_0) = out0 m c
    ∧ r.2.mem ((c.tc : Thread nD τ).loc main_v4_1) = out1 m c
    ∧ r.2.mem ((c.tc : Thread nD τ).loc main_v4_2) = gateV m c
    ∧ r.2.mem ((c.tc : Thread nD τ).loc main_v4_3) = out3 m c :=
  (θ_run defs _ _).mono (fun _ h c => ⟨((h.1 c).1 10).trans (arr_10 m c), ((h.1 c).1 11).trans (arr_11 m c),
    ((h.1 c).1 12).trans (arr_12 m c), ((h.1 c).1 13).trans (arr_13 m c)⟩) (run m ρ)

end

/-- The reference runs to the end with its arguments unchanged; it has no counters. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The named logarithm's word is the printed one and its value is `1 / log 2`. -/
theorem preserves : Cert.preserves_Kernel_KernelIdeal :=
  IdealRules.named_const.statement Cert.KernelIdeal.κ "log2e" .f32 0x3FB8AA3B#32 (((Real.log 2)⁻¹ : ℝ) : EReal) rfl

section
open Cert.ReferenceIdeal Cert.ReferenceIdeal.Gen

/-- The reference's first result over the kernel's arguments is the kernel's. -/
theorem first_eq (m : (ℓ : Loc Cert.KernelIdeal.nD Cert.KernelIdeal.τ Cert.KernelIdeal.sig) → Buf (Elt Ideal) ℓ) (c : Dev nD)
    (h : FVec Ideal S1024x256 .f32) (s : FVec Ideal S1024x65536 .f32) (M : FVec Ideal S65536x128 .f32) (wo : FVec Ideal S384x1 .f32) (bo : FVec Ideal S1 .f32)
    (eh : h = H m c) (es : s = S m c) (eM : M = Mem m c) (ewo : wo = m ((c.tc : Thread Cert.KernelIdeal.nD Cert.KernelIdeal.τ).loc Cert.KernelIdeal.main_arg8))
    (ebo : bo = m ((c.tc : Thread Cert.KernelIdeal.nD Cert.KernelIdeal.τ).loc Cert.KernelIdeal.main_arg9)) :
    Stage.output h (Stage.readV (Stage.weight s) M) wo bo = Cert.KernelIdeal.Body.out0 m c := by
  subst eh es eM ewo ebo
  exact (out0_eq m c).symm

/-- The reference's second result over the kernel's arguments is the kernel's. -/
theorem second_eq (m : (ℓ : Loc Cert.KernelIdeal.nD Cert.KernelIdeal.τ Cert.KernelIdeal.sig) → Buf (Elt Ideal) ℓ) (c : Dev nD)
    (h : FVec Ideal S1024x256 .f32) (eh : h = H m c) :
    extractStridedSlice S1x256 ![1023, 0] h slices_S1024x256_S1x256_1023_0 = Cert.KernelIdeal.Body.out1 m c := by
  funext y
  obtain ⟨z, d, rfl⟩ : ∃ (z : Fin 1) (d : Fin 256), y = ix2 z d := ⟨y 0, y 1, eq_ix2 y⟩
  obtain rfl : z = 0 := Subsingleton.elim _ _
  exact (Stage.last_hidden h d).trans ((congrFun eh _).trans (out1_eq m c d).symm)

/-- The reference's third result over the kernel's arguments is the kernel's. -/
theorem third_eq (m : (ℓ : Loc Cert.KernelIdeal.nD Cert.KernelIdeal.τ Cert.KernelIdeal.sig) → Buf (Elt Ideal) ℓ) (c : Dev nD)
    (x : FVec Ideal S1024x512 .f32) (wg : FVec Ideal S512x1 .f32) (bg : FVec Ideal S1 .f32)
    (ex : x = m ((c.tc : Thread Cert.KernelIdeal.nD Cert.KernelIdeal.τ).loc Cert.KernelIdeal.main_arg0))
    (ew : wg = m ((c.tc : Thread Cert.KernelIdeal.nD Cert.KernelIdeal.τ).loc Cert.KernelIdeal.main_arg3))
    (eb : bg = m ((c.tc : Thread Cert.KernelIdeal.nD Cert.KernelIdeal.τ).loc Cert.KernelIdeal.main_arg4)) :
    extractStridedSlice S1x1 ![1023, 0] (Stage.gate x wg bg) slices_S1024x1_S1x1_1023_0 = Cert.KernelIdeal.Body.gateV m c := by
  subst ex ew eb
  funext y
  obtain ⟨z, d, rfl⟩ : ∃ (z : Fin 1) (d : Fin 1), y = ix2 z d := ⟨y 0, y 1, eq_ix2 y⟩
  obtain rfl : z = 0 := Subsingleton.elim _ _
  obtain rfl : d = 0 := Subsingleton.elim _ _
  exact (Stage.last_gate _).trans (gate_eq m c).symm

/-- The reference's fourth result over the kernel's arguments is the kernel's. -/
theorem fourth_eq (m : (ℓ : Loc Cert.KernelIdeal.nD Cert.KernelIdeal.τ Cert.KernelIdeal.sig) → Buf (Elt Ideal) ℓ) (c : Dev nD)
    (s : FVec Ideal S1024x65536 .f32) (es : s = S m c) :
    extractStridedSlice S1x65536 ![1023, 0] (Stage.weight s) slices_S1024x65536_S1x65536_1023_0 = Cert.KernelIdeal.Body.out3 m c := by
  funext y
  obtain ⟨z, j, rfl⟩ : ∃ (z : Fin 1) (j : Fin 65536), y = ix2 z j := ⟨y 0, y 1, eq_ix2 y⟩
  obtain rfl : z = 0 := Subsingleton.elim _ _
  subst es
  exact (Stage.last_weight _ j).trans (out3_eq m c j).symm

end

/-- From memories agreeing on the arguments, the ideal kernel and the reference end with equal results, all four. -/
theorem algebraic : Cert.algebraic_KernelIdeal_ReferenceIdeal := by
  intro m ρ m' ρ' _ hagree
  have eh (c) : Cert.ReferenceIdeal.Stage.hiddenM m' c = H m c := by
    obtain ⟨h0, h1, h2, -⟩ := hagree c
    have e := congr (congr (congrArg Cert.ReferenceIdeal.Stage.hidden h0) h1) h2
    exact e
  have es (c) : Cert.ReferenceIdeal.Stage.simM m' c = S m c := by
    obtain ⟨-, -, -, -, -, h5, h6, h7, -⟩ := hagree c
    have e := congr (congrArg Cert.ReferenceIdeal.Stage.sim (congr (congr (congrArg Cert.ReferenceIdeal.Stage.key (eh c)) h5) h6)) h7
    exact e
  refine ⟨fun c => Cert.KernelIdeal.Body.out0 m c, fun c => Cert.KernelIdeal.Body.out1 m c, fun c => Cert.KernelIdeal.Body.gateV m c,
    fun c => Cert.KernelIdeal.Body.out3 m c, ?_, ?_⟩
  · exact (θ_run Cert.KernelIdeal.defs _ _).mono (fun _ h c => ⟨(h.1 c).1, (h.1 c).2.1, (h.1 c).2.2.1, (h.1 c).2.2.2, h.2.1 c⟩)
      (θ_run_and (run_results m ρ) (frame_ideal m ρ trivial))
  · refine (θ_run Cert.ReferenceIdeal.defs _ _).mono (fun _ h c => ?_) (Cert.ReferenceIdeal.Value.run (F := Ideal) m' ρ')
    obtain ⟨r0, r1, r2, r3, rargs⟩ := h c
    obtain ⟨h0, -, -, h3, h4, -, -, h7, h8, h9⟩ := hagree c
    exact ⟨r0.trans ((Cert.ReferenceIdeal.Stage.res44 m' c).trans (first_eq m c _ _ _ _ _ (eh c) (es c) h7 h8 h9)), r1.trans (second_eq m c _ (eh c)),
      r2.trans (third_eq m c _ _ _ h0 h3 h4), r3.trans ((Cert.ReferenceIdeal.Stage.res47 m' c).trans (fourth_eq m c _ (es c))), rargs⟩

end Cert.Proof.Claims

end
-- ==== Proof.WordFrame.lean ====
/- The frame of the kernel as printed: at machine words the named constant is its printed word, so the printed
   kernel and the ideal one are the same program there, and the run proved over any floats is the printed kernel's. -/
module

public import proofs.«01_k».proof.Proof.Claims
public import proofs.«01_k».proof.Proof.Gen.Kernel

@[expose] public section

set_option maxRecDepth 16384

noncomputable section

namespace Cert.Proof.WordFrame

open Idealize.ShloMosaic Idealize.ShloMosaic.TcCoe Idealize.SL.Sem Idealize.ShloMosaic.StableHlo

/-- At machine words a named constant is its printed word. -/
abbrev atWord : Named Bits := ⟨fun _ _ {φ} b => Scalar.ofBits φ b⟩

section
variable [hK : Cert.Kernel.Facts] [hI : Cert.KernelIdeal.Facts]
attribute [local instance] atWord

/-- At machine words the two programs' bodies are the same. -/
theorem body_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt Bits)) ?_
  funext l a
  match l, a with
  | 0, (t, s) => rfl
  | ⟨_ + 1, h⟩, _ => exact absurd h (by omega)

/-- and so are the tables of what is run. -/
theorem defs_eq : Cert.Kernel.defs (F := Bits) = Cert.KernelIdeal.defs (F := Bits) :=
  congrArg (Pipeline.defs (Cert.Kernel.pcfgs (F := Bits))) body_eq

end

/-- The kernel as printed runs to the end with its arguments unchanged and its counters at zero. -/
theorem frame_kernel : Cert.quiescent_Kernel := fun m ρ _ => by
  have h := @Cert.Proof.Claims.frame_any Bits _ atWord m ρ
  rw [← defs_eq] at h
  exact h

end Cert.Proof.WordFrame

end
-- ==== Proof.lean ====
module

public import proofs.«01_k».proof.Proof.Claims
public import proofs.«01_k».proof.Proof.WordFrame
public import proofs.«01_k».proof.Proof.Gen.Kernel
public import proofs.«01_k».proof.Proof.Gen.KernelIdeal
public import proofs.«01_k».proof.Proof.Gen.ReferenceIdeal

@[expose] public section

noncomputable section

namespace Cert.Proof

/-- Every claim of the certificate. -/
theorem claim : Cert.Claim :=
  ⟨Cert.Kernel.Gen.facts, Cert.KernelIdeal.Gen.facts, Cert.ReferenceIdeal.Gen.facts, WordFrame.frame_kernel, Claims.frame_ideal, Claims.frame_reference,
    Claims.preserves, Claims.algebraic⟩

end Cert.Proof

end
